-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x1024 : Shape := ⟨2, ![2, 1024]⟩
abbrev S2048x1024 : Shape := ⟨2, ![2048, 1024]⟩
abbrev S1x1024 : Shape := ⟨2, ![1, 1024]⟩
abbrev S8x2x1024 : Shape := ⟨3, ![8, 2, 1024]⟩
abbrev S69632x128 : Shape := ⟨2, ![69632, 128]⟩
abbrev S8 : Shape := ⟨1, ![8]⟩
abbrev S_ : Shape := ⟨0, ![]⟩
abbrev S1x128 : Shape := ⟨2, ![1, 128]⟩
abbrev S1024 : Shape := ⟨1, ![1024]⟩
abbrev S1x2x1024 : Shape := ⟨3, ![1, 2, 1024]⟩
abbrev S1 : Shape := ⟨1, ![1]⟩
abbrev S1x1x1024 : Shape := ⟨3, ![1, 1, 1024]⟩

abbrev nBuf : Space → Nat
  | .hbm => 2
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .local _ .vmem, ⟨0, _⟩ => ⟨S2048x1024, .f32⟩
  | .local _ .vmem, ⟨1, _⟩ => ⟨S2048x1024, .f32⟩
  | .local _ .vmem, ⟨2, _⟩ => ⟨S2x1024, .f32⟩
  | .local _ .vmem, ⟨3, _⟩ => ⟨S1x1024, .f32⟩
  | .local _ .vmem, ⟨4, _⟩ => ⟨S1x1024, .i32⟩
  | .local _ .vmem, ⟨5, _⟩ => ⟨S1x1024, .f32⟩
  | .local _ .vmem, ⟨6, _⟩ => ⟨S8x2x1024, .f32⟩
  | .local _ .vmem, ⟨7, _⟩ => ⟨S69632x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c0_i32_1 : BitVec 32 := 0#32
  let v7 : BitVec 1 := Scalar.cmpi .eq arg0 c0_i32_1
  let v8 : BitVec 32 := Scalar.extui v7
  let c0_i32_2 : BitVec 32 := 0#32
  let v9 : BitVec 1 := Scalar.cmpi .ne v8 c0_i32_2
  v9

def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v32 : BitVec 1 := Scalar.cmpi .ne v2 c0_i32_12
  let v33 : BitVec 32 := Scalar.extui v32
  let c0_i32_13 : BitVec 32 := 0#32
  let v34 : BitVec 1 := Scalar.cmpi .ne v33 c0_i32_13
  v34

def k0_dev1 : Nat :=
  let c0_i32_25 : BitVec 32 := 0#32
  let c0_i32_23 : BitVec 32 := 0#32
  let c1_i32_24 : BitVec 32 := 1#32
  let v56 : BitVec 32 := Scalar.muli c0_i32_23 c1_i32_24
  let v57 : BitVec 32 := Scalar.addi c0_i32_25 v56
  v57.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v35 : BitVec 1 := Scalar.cmpi .ne v2 c1_i32_14
  let v36 : BitVec 32 := Scalar.extui v35
  let c0_i32_15 : BitVec 32 := 0#32
  let v37 : BitVec 1 := Scalar.cmpi .ne v36 c0_i32_15
  v37

def k0_dev2 : Nat :=
  let c0_i32_25 : BitVec 32 := 0#32
  let c1_i32_23 : BitVec 32 := 1#32
  let c1_i32_24 : BitVec 32 := 1#32
  let v56 : BitVec 32 := Scalar.muli c1_i32_23 c1_i32_24
  let v57 : BitVec 32 := Scalar.addi c0_i32_25 v56
  v57.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v38 : BitVec 1 := Scalar.cmpi .ne v2 c2_i32
  let v39 : BitVec 32 := Scalar.extui v38
  let c0_i32_16 : BitVec 32 := 0#32
  let v40 : BitVec 1 := Scalar.cmpi .ne v39 c0_i32_16
  v40

def k0_dev3 : Nat :=
  let c0_i32_25 : BitVec 32 := 0#32
  let c2_i32_23 : BitVec 32 := 2#32
  let c1_i32_24 : BitVec 32 := 1#32
  let v56 : BitVec 32 := Scalar.muli c2_i32_23 c1_i32_24
  let v57 : BitVec 32 := Scalar.addi c0_i32_25 v56
  v57.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 1 := Scalar.cmpi .ne v2 c3_i32
  let v42 : BitVec 32 := Scalar.extui v41
  let c0_i32_17 : BitVec 32 := 0#32
  let v43 : BitVec 1 := Scalar.cmpi .ne v42 c0_i32_17
  v43

def k0_dev4 : Nat :=
  let c0_i32_25 : BitVec 32 := 0#32
  let c3_i32_23 : BitVec 32 := 3#32
  let c1_i32_24 : BitVec 32 := 1#32
  let v56 : BitVec 32 := Scalar.muli c3_i32_23 c1_i32_24
  let v57 : BitVec 32 := Scalar.addi c0_i32_25 v56
  v57.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v44 : BitVec 1 := Scalar.cmpi .ne v2 c4_i32
  let v45 : BitVec 32 := Scalar.extui v44
  let c0_i32_18 : BitVec 32 := 0#32
  let v46 : BitVec 1 := Scalar.cmpi .ne v45 c0_i32_18
  v46

def k0_dev5 : Nat :=
  let c0_i32_25 : BitVec 32 := 0#32
  let c4_i32_23 : BitVec 32 := 4#32
  let c1_i32_24 : BitVec 32 := 1#32
  let v56 : BitVec 32 := Scalar.muli c4_i32_23 c1_i32_24
  let v57 : BitVec 32 := Scalar.addi c0_i32_25 v56
  v57.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v47 : BitVec 1 := Scalar.cmpi .ne v2 c5_i32
  let v48 : BitVec 32 := Scalar.extui v47
  let c0_i32_19 : BitVec 32 := 0#32
  let v49 : BitVec 1 := Scalar.cmpi .ne v48 c0_i32_19
  v49

def k0_dev6 : Nat :=
  let c0_i32_25 : BitVec 32 := 0#32
  let c5_i32_23 : BitVec 32 := 5#32
  let c1_i32_24 : BitVec 32 := 1#32
  let v56 : BitVec 32 := Scalar.muli c5_i32_23 c1_i32_24
  let v57 : BitVec 32 := Scalar.addi c0_i32_25 v56
  v57.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v50 : BitVec 1 := Scalar.cmpi .ne v2 c6_i32
  let v51 : BitVec 32 := Scalar.extui v50
  let c0_i32_20 : BitVec 32 := 0#32
  let v52 : BitVec 1 := Scalar.cmpi .ne v51 c0_i32_20
  v52

def k0_dev7 : Nat :=
  let c0_i32_25 : BitVec 32 := 0#32
  let c6_i32_23 : BitVec 32 := 6#32
  let c1_i32_24 : BitVec 32 := 1#32
  let v56 : BitVec 32 := Scalar.muli c6_i32_23 c1_i32_24
  let v57 : BitVec 32 := Scalar.addi c0_i32_25 v56
  v57.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v53 : BitVec 1 := Scalar.cmpi .ne v2 c7_i32
  let v54 : BitVec 32 := Scalar.extui v53
  let c0_i32_21 : BitVec 32 := 0#32
  let v55 : BitVec 1 := Scalar.cmpi .ne v54 c0_i32_21
  v55

def k0_dev8 : Nat :=
  let c0_i32_25 : BitVec 32 := 0#32
  let c7_i32_23 : BitVec 32 := 7#32
  let c1_i32_24 : BitVec 32 := 1#32
  let v56 : BitVec 32 := Scalar.muli c7_i32_23 c1_i32_24
  let v57 : BitVec 32 := Scalar.addi c0_i32_25 v56
  v57.toNat
def k0_cond13 (i : grid0.Coords) : BitVec 1 :=
  let arg0 : BitVec 32 := BitVec.ofNat 32 (i 0).val
  let c1_i32_10 : BitVec 32 := 1#32
  let v29 : BitVec 1 := Scalar.cmpi .eq arg0 c1_i32_10
  let v30 : BitVec 32 := Scalar.extui v29
  let c0_i32_11 : BitVec 32 := 0#32
  let v31 : BitVec 1 := Scalar.cmpi .ne v30 c0_i32_11
  v31

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : Index := Scalar.indexCast v2
  let c0_16 : Index := 0#32
  let c0_17 : Index := 0#32
  ![v44.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v48 : BitVec 1 := Scalar.cmpi .ne v2 c0_i32_18
  let v49 : BitVec 32 := Scalar.extui v48
  let c0_i32_19 : BitVec 32 := 0#32
  let v50 : BitVec 1 := Scalar.cmpi .ne v49 c0_i32_19
  v50

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev9 : Nat :=
  let c0_i32_171 : BitVec 32 := 0#32
  let c0_i32_169 : BitVec 32 := 0#32
  let c1_i32_170 : BitVec 32 := 1#32
  let v257 : BitVec 32 := Scalar.muli c0_i32_169 c1_i32_170
  let v258 : BitVec 32 := Scalar.addi c0_i32_171 v257
  v258.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v51 : BitVec 1 := Scalar.cmpi .ne v2 c1_i32_20
  let v52 : BitVec 32 := Scalar.extui v51
  let c0_i32_21 : BitVec 32 := 0#32
  let v53 : BitVec 1 := Scalar.cmpi .ne v52 c0_i32_21
  v53

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev10 : Nat :=
  let c0_i32_171 : BitVec 32 := 0#32
  let c1_i32_169 : BitVec 32 := 1#32
  let c1_i32_170 : BitVec 32 := 1#32
  let v257 : BitVec 32 := Scalar.muli c1_i32_169 c1_i32_170
  let v258 : BitVec 32 := Scalar.addi c0_i32_171 v257
  v258.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v54 : BitVec 1 := Scalar.cmpi .ne v2 c2_i32
  let v55 : BitVec 32 := Scalar.extui v54
  let c0_i32_22 : BitVec 32 := 0#32
  let v56 : BitVec 1 := Scalar.cmpi .ne v55 c0_i32_22
  v56

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev11 : Nat :=
  let c0_i32_171 : BitVec 32 := 0#32
  let c2_i32_169 : BitVec 32 := 2#32
  let c1_i32_170 : BitVec 32 := 1#32
  let v257 : BitVec 32 := Scalar.muli c2_i32_169 c1_i32_170
  let v258 : BitVec 32 := Scalar.addi c0_i32_171 v257
  v258.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v57 : BitVec 1 := Scalar.cmpi .ne v2 c3_i32
  let v58 : BitVec 32 := Scalar.extui v57
  let c0_i32_23 : BitVec 32 := 0#32
  let v59 : BitVec 1 := Scalar.cmpi .ne v58 c0_i32_23
  v59

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev12 : Nat :=
  let c0_i32_171 : BitVec 32 := 0#32
  let c3_i32_169 : BitVec 32 := 3#32
  let c1_i32_170 : BitVec 32 := 1#32
  let v257 : BitVec 32 := Scalar.muli c3_i32_169 c1_i32_170
  let v258 : BitVec 32 := Scalar.addi c0_i32_171 v257
  v258.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v60 : BitVec 1 := Scalar.cmpi .ne v2 c4_i32
  let v61 : BitVec 32 := Scalar.extui v60
  let c0_i32_24 : BitVec 32 := 0#32
  let v62 : BitVec 1 := Scalar.cmpi .ne v61 c0_i32_24
  v62

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev13 : Nat :=
  let c0_i32_171 : BitVec 32 := 0#32
  let c4_i32_169 : BitVec 32 := 4#32
  let c1_i32_170 : BitVec 32 := 1#32
  let v257 : BitVec 32 := Scalar.muli c4_i32_169 c1_i32_170
  let v258 : BitVec 32 := Scalar.addi c0_i32_171 v257
  v258.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v63 : BitVec 1 := Scalar.cmpi .ne v2 c5_i32
  let v64 : BitVec 32 := Scalar.extui v63
  let c0_i32_25 : BitVec 32 := 0#32
  let v65 : BitVec 1 := Scalar.cmpi .ne v64 c0_i32_25
  v65

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev14 : Nat :=
  let c0_i32_171 : BitVec 32 := 0#32
  let c5_i32_169 : BitVec 32 := 5#32
  let c1_i32_170 : BitVec 32 := 1#32
  let v257 : BitVec 32 := Scalar.muli c5_i32_169 c1_i32_170
  let v258 : BitVec 32 := Scalar.addi c0_i32_171 v257
  v258.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v66 : BitVec 1 := Scalar.cmpi .ne v2 c6_i32
  let v67 : BitVec 32 := Scalar.extui v66
  let c0_i32_26 : BitVec 32 := 0#32
  let v68 : BitVec 1 := Scalar.cmpi .ne v67 c0_i32_26
  v68

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev15 : Nat :=
  let c0_i32_171 : BitVec 32 := 0#32
  let c6_i32_169 : BitVec 32 := 6#32
  let c1_i32_170 : BitVec 32 := 1#32
  let v257 : BitVec 32 := Scalar.muli c6_i32_169 c1_i32_170
  let v258 : BitVec 32 := Scalar.addi c0_i32_171 v257
  v258.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_27 : BitVec 32 := 7#32
  let v69 : BitVec 1 := Scalar.cmpi .ne v2 c7_i32_27
  let v70 : BitVec 32 := Scalar.extui v69
  let c0_i32_28 : BitVec 32 := 0#32
  let v71 : BitVec 1 := Scalar.cmpi .ne v70 c0_i32_28
  v71

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_172 : BitVec 32 := 0#32
  let c0_i32_173 : BitVec 32 := 0#32
  ![v2.toNat, 0, 0]
def k0_dev16 : Nat :=
  let c0_i32_171 : BitVec 32 := 0#32
  let c7_i32_169 : BitVec 32 := 7#32
  let c1_i32_170 : BitVec 32 := 1#32
  let v257 : BitVec 32 := Scalar.muli c7_i32_169 c1_i32_170
  let v258 : BitVec 32 := Scalar.addi c0_i32_171 v257
  v258.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let v233 : BitVec 1 := Scalar.cmpi .ne v2 c0_i32_152
  let v234 : BitVec 32 := Scalar.extui v233
  let c0_i32_153 : BitVec 32 := 0#32
  let v235 : BitVec 1 := Scalar.cmpi .ne v234 c0_i32_153
  v235

def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v236 : BitVec 1 := Scalar.cmpi .ne v2 c1_i32_154
  let v237 : BitVec 32 := Scalar.extui v236
  let c0_i32_155 : BitVec 32 := 0#32
  let v238 : BitVec 1 := Scalar.cmpi .ne v237 c0_i32_155
  v238

def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_156 : BitVec 32 := 2#32
  let v239 : BitVec 1 := Scalar.cmpi .ne v2 c2_i32_156
  let v240 : BitVec 32 := Scalar.extui v239
  let c0_i32_157 : BitVec 32 := 0#32
  let v241 : BitVec 1 := Scalar.cmpi .ne v240 c0_i32_157
  v241

def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_158 : BitVec 32 := 3#32
  let v242 : BitVec 1 := Scalar.cmpi .ne v2 c3_i32_158
  let v243 : BitVec 32 := Scalar.extui v242
  let c0_i32_159 : BitVec 32 := 0#32
  let v244 : BitVec 1 := Scalar.cmpi .ne v243 c0_i32_159
  v244

def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_160 : BitVec 32 := 4#32
  let v245 : BitVec 1 := Scalar.cmpi .ne v2 c4_i32_160
  let v246 : BitVec 32 := Scalar.extui v245
  let c0_i32_161 : BitVec 32 := 0#32
  let v247 : BitVec 1 := Scalar.cmpi .ne v246 c0_i32_161
  v247

def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_162 : BitVec 32 := 5#32
  let v248 : BitVec 1 := Scalar.cmpi .ne v2 c5_i32_162
  let v249 : BitVec 32 := Scalar.extui v248
  let c0_i32_163 : BitVec 32 := 0#32
  let v250 : BitVec 1 := Scalar.cmpi .ne v249 c0_i32_163
  v250

def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_164 : BitVec 32 := 6#32
  let v251 : BitVec 1 := Scalar.cmpi .ne v2 c6_i32_164
  let v252 : BitVec 32 := Scalar.extui v251
  let c0_i32_165 : BitVec 32 := 0#32
  let v253 : BitVec 1 := Scalar.cmpi .ne v252 c0_i32_165
  v253

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_166 : BitVec 32 := 7#32
  let v254 : BitVec 1 := Scalar.cmpi .ne v2 c7_i32_166
  let v255 : BitVec 32 := Scalar.extui v254
  let c0_i32_167 : BitVec 32 := 0#32
  let v256 : BitVec 1 := Scalar.cmpi .ne v255 c0_i32_167
  v256

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_171 : BitVec 32 := 0#32
  let c0_i32_172 : BitVec 32 := 0#32
  ![v2.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Slots.lean ====
/-
# The gather buffer by slots, and what the kernel keeps in it

Each device holds a gather buffer of eight slots, one per device: slot `p` is to hold the pair of rows device `p`
computed from its own block of `x` — the column maxima and the row numbers where they were met. This file says which
elements slot `p` has, that the views the kernel loads, stores and copies through stay inside a slot, and what the
rows of device `d` are: a function of its block alone. One whole buffer, `gath`, holds them all; it is the same
buffer for every device, and what a landing leaves in a slot is `gath` on that slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ShareLeaves

@[expose] public section

set_option maxRecDepth 16384

noncomputable section

namespace Cert.AllMax

open Cert.KernelIdeal Cert.KernelIdeal.Gen
open Idealize.ShloMosaic
open Idealize.ShloMosaic.TcCoe

variable {F : FTy → Type} [FloatOps F]

/-! ## Buffers -/

abbrev xA : Memref sig .tc .vmem S2048x1024 .f32 := Memref.whole cc0_stg0_0
abbrev xB : Memref sig .tc .vmem S2048x1024 .f32 := Memref.whole cc0_stg0_1
abbrev oM : Memref sig .tc .vmem S2x1024 .f32 := Memref.whole cc0_stg1_0
abbrev valM : Memref sig .tc .vmem S1x1024 .f32 := Memref.whole cc0_scratch0
abbrev idxM : Memref sig .tc .vmem S1x1024 .i32 := Memref.whole cc0_scratch1
abbrev id2M : Memref sig .tc .vmem S1x1024 .f32 := Memref.whole cc0_scratch2
abbrev gM : Memref sig .tc .vmem S8x2x1024 .f32 := Memref.whole cc0_scratch3
abbrev blkM : Memref sig .tc .vmem S69632x128 .f32 := Memref.whole cc0_scratch4

/-! ## Slots -/

/-- The elements of slot `p` of the gather buffer. -/
def slotSet (p : Dev nD) : Finset (S8x2x1024.Idx) := Finset.univ.filter fun i => (i 0).val = p.val

theorem mem_slotSet {p : Dev nD} {i : S8x2x1024.Idx} : i ∈ slotSet p ↔ (i 0).val = p.val := by
  unfold slotSet; rw [Finset.mem_filter]; exact ⟨fun h => h.2, fun h => ⟨Finset.mem_univ _, h⟩⟩

theorem slot_inb (p : Dev nD) : ∀ a, (![p.val, 0, 0] : Fin 3 → Nat) a + S1x2x1024.size a ≤ S8x2x1024.size a := by revert p; decide

/-- A one-slot rectangle. -/
abbrev slotR (off : Fin 3 → Nat) (h : ∀ a, (off : Fin 3 → Nat) a + S1x2x1024.size a ≤ S8x2x1024.size a) : Rect S8x2x1024 :=
  Rect.unit (s := S8x2x1024) off S1x2x1024.size h

/-- The slot at `off` as the two rows a copy moves. -/
abbrev slotM (off : Fin 3 → Nat) (h : ∀ a, (off : Fin 3 → Nat) a + S1x2x1024.size a ≤ S8x2x1024.size a) : Memref sig .tc .vmem S2x1024 .f32 :=
  (gM.slice (slotR off h) (fun _ => rfl)).squeeze S2x1024 squeezes_S1x2x1024_S2x1024

theorem slotR_set (p : Dev nD) (off) (h) (ho : off = ![p.val, 0, 0]) : (slotR off h).set = slotSet p := by
  subst ho
  ext i
  rw [mem_slotSet, Rect.mem_set_unit]
  constructor
  · intro H
    have h0 := H 0
    have : ![p.val, 0, 0] (0 : Fin 3) = p.val := rfl
    have h1 : S1x2x1024.size (0 : Fin 3) = 1 := rfl
    rw [this, h1] at h0
    omega
  · intro H a
    have hi := (i a).isLt
    fin_cases a
    · exact ⟨le_of_eq H.symm, by show (i 0).val < p.val + 1; omega⟩
    · exact ⟨Nat.zero_le _, by have h2 : (i 1).val < 2 := hi; show (i 1).val < 0 + 2; omega⟩
    · exact ⟨Nat.zero_le _, by have h2 : (i 2).val < 1024 := hi; show (i 2).val < 0 + 1024; omega⟩

theorem slotM_set (p : Dev nD) (off) (h) (ho : off = ![p.val, 0, 0]) : (slotM off h).view.set = slotSet p := by
  show (((View.whole cc0_scratch3).slice (slotR off h)).reshape S2x1024 _).set = _
  rw [View.set_reshape, View.set_slice_whole]
  exact slotR_set p off h ho

/-- The access of a whole slot stays inside it, -/
theorem slot_access (p : Dev nD) (off) (h) (ho : off = ![p.val, 0, 0]) :
    (gM.access (slotR off h) : View sig .tc _ _ _).set = slotSet p := by
  show ((View.whole cc0_scratch3).slice (slotR off h)).set = _
  rw [View.set_slice_whole]
  exact slotR_set p off h ho

/-- and so does the access of one of its rows. -/
theorem row_access (p : Dev nD) (r : Nat) (hr : ∀ a, (![p.val, r, 0] : Fin 3 → Nat) a + S1x1x1024.size a ≤ S8x2x1024.size a) :
    (gM.view.setOn ((Rect.unit (s := S8x2x1024) ![p.val, r, 0] S1x1x1024.size hr).toLoadRect).set) ⊆ slotSet p := by
  intro i hi
  obtain ⟨j, hj, rfl⟩ := Finset.mem_map.mp hi
  have hj' : j ∈ (Rect.unit (s := S8x2x1024) ![p.val, r, 0] S1x1x1024.size hr).set := hj
  rw [Rect.mem_set_unit] at hj'
  rw [mem_slotSet]
  have h0 := hj' 0
  have e1 : ![p.val, r, 0] (0 : Fin 3) = p.val := rfl
  have e2 : S1x1x1024.size (0 : Fin 3) = 1 := rfl
  rw [e1, e2] at h0
  show (j 0).val = p.val
  omega

theorem slots_cover (i : S8x2x1024.Idx) : ∃ p : Dev nD, i ∈ slotSet p :=
  ⟨⟨(i 0).val, (i 0).isLt⟩, mem_slotSet.mpr rfl⟩

theorem slots_disjoint {p p' : Dev nD} (h : p ≠ p') : Disjoint (slotSet p) (slotSet p') := by
  rw [Finset.disjoint_left]
  intro i hi hi'
  exact h (Fin.ext ((mem_slotSet.mp hi).symm.trans (mem_slotSet.mp hi')))

/-! ## What one device computes from its block -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The half of device `c`'s block of `x` that grid point `t` stages. -/
def xblk (c : Dev nD) (t : Fin cfg0.N) : Vec F S2048x1024 .f32 :=
  (win0_0.blk t).view.read (Elt F) ((s₀ m ρ).mem ((c : Thread nD τ).loc main_arg0))

/-- The device word the kernel computes with. -/
def wordOf (d : Dev nD) : BitVec 32 := Scalar.remsi (Scalar.divsi (Dev.word d) 1#32) 8#32

/-- The running maxima and row numbers after the first half, -/
def rv0 (c : Dev nD) : FVec F S1x1024 .f32 := k0_pay5 (xblk m ρ c t0_0)
def ri0 (c : Dev nD) : IVec S1x1024 32 := k0_pay6 (grid0.coords t0_0) (xblk m ρ c t0_0)
/-- and after the second. -/
def rv1 (c : Dev nD) : FVec F S1x1024 .f32 := k0_pay9 (xblk m ρ c t0_1) (rv0 m ρ c)
def ri1 (c : Dev nD) : IVec S1x1024 32 := k0_pay10 (grid0.coords t0_1) (xblk m ρ c t0_1) (rv0 m ρ c) (ri0 m ρ c)
/-- The two rows the device sends. -/
def rows (c : Dev nD) : FVec F S1x2x1024 .f32 := k0_pay11 (wordOf c) (ri1 m ρ c) (rv1 m ρ c)

/-- Where an element of the gather buffer lies in its slot. -/
def rowIdx (i : S8x2x1024.Idx) : S1x2x1024.Idx := fun
  | ⟨0, _⟩ => (0 : Fin 1)
  | ⟨1, _⟩ => (i 1 : Fin 2)
  | ⟨2, _⟩ => (i 2 : Fin 1024)

/-- The gather buffer once everything has landed: slot `d` holds device `d`'s two rows. -/
def gath : (cc0_scratch3 : Ref sig .tc).ty.Contents (Elt F) := fun i => rows m ρ ⟨(i 0).val, (i 0).isLt⟩ (rowIdx i)

/-- A device's own store fills its slot with its rows. -/
theorem own_store (c : Dev nD) (off) (h) (ho : off = ![c.val, 0, 0]) (f : (cc0_scratch3 : Ref sig .tc).ty.Contents (Elt F))
    (i : S8x2x1024.Idx) (hi : i ∈ slotSet c) :
    (gM.access (slotR off h) : View sig .tc _ _ _).write (Elt F) f (rows m ρ c) Finset.univ i = gath m ρ i := by
  have hx : (gM.access (slotR off h) : View sig .tc _ _ _).emb (rowIdx i) = i := by
    subst ho
    funext a
    refine Fin.ext ?_
    have hi0 := mem_slotSet.mp hi
    fin_cases a
    · show c.val + 1 * 0 = (i 0).val; omega
    · show 0 + 1 * (i 1).val = (i 1).val; omega
    · show 0 + 1 * (i 2).val = (i 2).val; omega
  have hd : (⟨(i 0).val, (i 0).isLt⟩ : Dev nD) = c := Fin.ext (mem_slotSet.mp hi)
  have hw := View.write_emb_of_mem (v := (gM.access (slotR off h) : View sig .tc _ _ _)) (Val := Elt F) f (rows m ρ c)
    (Finset.mem_univ (rowIdx i))
  rw [hx] at hw
  rw [hw]
  unfold gath
  rw [hd]
  rfl

/-- A copy of slot `p` of `gath` onto slot `p` of any buffer leaves `gath` there. -/
theorem landing (p : Dev nD) (off) (h) (ho : off = ![p.val, 0, 0]) (fd : (cc0_scratch3 : Ref sig .tc).ty.Contents (Elt F))
    (i : S8x2x1024.Idx) (hi : i ∈ slotSet p) :
    (slotM off h).view.write (Elt F) fd ((slotM off h).view.read (Elt F) (gath m ρ)) Finset.univ i = gath m ρ i := by
  rw [View.write_read_eq_piecewise]
  exact Finset.piecewise_eq_of_mem _ _ _ (by rw [← slotM_set p off h ho] at hi; exact hi)

end Cert.AllMax
-- ==== Proof.Protocol.lean ====
/-
# The protocol of the eight devices

Each device has one barrier cell, a send cell and a receive cell for every peer. Every cell has one round.

* Barrier cell of device `d`: one unit from every other device `p`, with which `p` hands over slot `d` of its own
  gather buffer — the slot `d` will copy its rows into. `d` waits for the seven units before it sends.
* Send cell `p` of device `c` (`p ≠ c`): the credit of one slot, paid by `c`'s own copy to `p` once it has been
  read, which gives back the share of `c`'s own slot that was lent to that copy.
* Receive cell `p` of device `c` (`p ≠ c`): the credit of one slot, paid by the copy that device `p` addressed to
  `c`, which hands over slot `p` of `c`'s gather buffer holding `p`'s two rows.

Device `c`'s own slot is lent out in eighths, one to each copy; the eighth numbered `c` stays with `c`, who reads
its own slot while the copies are under way. A duty is named by the device that pays it. The send cell and the
receive cell that a device has for itself are never used: they have no duty.

A device first pays the seven barrier units, then waits for its own seven, then sends, then waits for what it
receives: barrier cells are below receive cells, and the staging copies and the send cells below both.
-/
module

public import proofs.«01_k».proof.Proof.Slots
public import Idealize.ShloMosaic.Lib.Ring

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

/-- The semaphores of one device that take part: the barrier, the send and the receive semaphore of each peer. -/
abbrev Cell : Type := Unit ⊕ (Dev nD ⊕ Dev nD)

abbrev barS : Sem sig := (SemArray.scalar (sig.barrier 0 rfl) : Sems sig S_).sem

def sendQ (p : Dev nD) : DmaSem sig := ⟨3 + p.val, by revert p; decide⟩
def recvQ (p : Dev nD) : DmaSem sig := ⟨11 + p.val, by revert p; decide⟩

def semOf : Cell → SemLoc sig
  | .inl _ => .reg barS
  | .inr (.inl p) => .dma (sendQ p)
  | .inr (.inr p) => .dma (recvQ p)

/-- Which of them a semaphore is. -/
def kind : SemLoc sig → Option Cell
  | .reg _ => some (.inl ())
  | .dma q => if q.val < 3 then none
      else if q.val < 11 then some (.inr (.inl ⟨(q.val - 3) % 8, Nat.mod_lt _ (by decide)⟩))
      else some (.inr (.inr ⟨(q.val - 11) % 8, Nat.mod_lt _ (by decide)⟩))

theorem kind_semOf : ∀ k : Cell, kind (semOf k) = some k := by decide

theorem semOf_injective : Function.Injective semOf := fun a b h =>
  Option.some.inj ((kind_semOf a).symm.trans ((congrArg kind h).trans (kind_semOf b)))

abbrev kcell (ck : Dev nD × Cell) : GSem nD τ sig := ((ck.1 : Thread nD τ), semOf ck.2)
abbrev barCell (c : Dev nD) : GSem nD τ sig := ((c : Thread nD τ), .reg barS)
abbrev sendCell (c p : Dev nD) : GSem nD τ sig := ((c : Thread nD τ), .dma (sendQ p))
abbrev recvCell (c p : Dev nD) : GSem nD τ sig := ((c : Thread nD τ), .dma (recvQ p))

theorem kind_bar : kind (.reg barS) = some (.inl ()) := rfl
theorem kind_send (p : Dev nD) : kind (.dma (sendQ p)) = some (.inr (.inl p)) := kind_semOf (.inr (.inl p))
theorem kind_recv (p : Dev nD) : kind (.dma (recvQ p)) = some (.inr (.inr p)) := kind_semOf (.inr (.inr p))

/-- The credit of one slot. -/
abbrev N : ℕ := (slotM ![0, 0, 0] (slot_inb 0)).view.dmaCredit
theorem N_pos : 0 < N := View.dmaCredit_pos _ (by decide)

/-! ## Slots as resources -/

/-- Device `d`'s slot `p` at share `q`. -/
def slotPts (d p : Dev nD) (q : PosShare TreeShare) (f : (cc0_scratch3 : Ref sig .tc).ty.Contents (Elt F)) : sProp 𝕄 :=
  ((d : Thread nD τ).loc cc0_scratch3) ↦[slotSet p]{q} f

/-- The eighth of a device's own slot that goes with peer `p`. -/
def eighth (p : Dev nD) : PosShare TreeShare := ShareLeaves.leaf 3 fullShare (finCongr (by decide : nD = 2 ^ 3) p)

omit [FloatOps F] in
instance slotPts_storable (d p : Dev nD) (q) (f) : BI.Storable (upEmb : UEmb _ 𝕄) (slotPts (F := F) d p q f) := by
  unfold slotPts; infer_instance

omit [FloatOps F] in
/-- A device's gather buffer is its eight slots. -/
theorem slots_split (d : Dev nD) (q : PosShare TreeShare) (f : (cc0_scratch3 : Ref sig .tc).ty.Contents (Elt F)) :
    (((d : Thread nD τ).loc cc0_scratch3) ↦{q} f : sProp 𝕄) = bigSep Finset.univ fun p : Dev nD => slotPts d p q f :=
  Ring.pointsTo_blocks (ℓ := (d : Thread nD τ).loc cc0_scratch3) (fun p : Dev nD => slotSet p) (fun a b h => slots_disjoint h)
    (Finset.ext fun i => ⟨fun _ => Finset.mem_univ _, fun _ => Finset.mem_biUnion.mpr ((slots_cover i).imp fun p h => ⟨Finset.mem_univ _, h⟩)⟩) f

omit [FloatOps F] in
theorem slot_eighths (d p : Dev nD) (f : (cc0_scratch3 : Ref sig .tc).ty.Contents (Elt F)) :
    (slotPts d p fullShare f : sProp 𝕄) = bigSep Finset.univ fun j : Dev nD => slotPts d p (eighth j) f := by
  unfold slotPts
  refine (ShareLeaves.pointsTo_leaves (ℓ := (d : Thread nD τ).loc cc0_scratch3) (slotSet p) f 3 fullShare).trans ?_
  exact bigSep_univ_equiv (finCongr (by decide : nD = 2 ^ 3)) _

/-! ## The schedule -/

def dutiesOf (c : Dev nD) : Option Cell → Finset (Dev nD)
  | none => ∅
  | some (.inl _) => Finset.univ.erase c
  | some (.inr (.inl p)) => if p = c then ∅ else {c}
  | some (.inr (.inr p)) => if p = c then ∅ else {p}

def payOf (c : Dev nD) (d : Dev nD) : Option Cell → sProp 𝕄
  | none => iprop(emp)
  | some (.inl _) => iprop(∃ f, slotPts d c fullShare f)
  | some (.inr (.inl p)) => slotPts c c (eighth p) (gath m ρ)
  | some (.inr (.inr p)) => slotPts c p fullShare (gath m ρ)

def amountOf : Option Cell → ℕ
  | some (.inl _) => 1
  | _ => N

instance payOf_storable (c d : Dev nD) (k : Option Cell) : BI.Storable (upEmb : UEmb _ 𝕄) (payOf (F := F) m ρ c d k) := by
  rcases k with _ | _ | _ | _ <;> (unfold payOf; infer_instance)

def Rd : Rounds.Schedule (GSem nD τ sig) (Dev nD) 𝕄 where
  duties g r := if r = 0 ∧ g.1.2 = .tc then dutiesOf g.1.1 (kind g.2) else ∅
  unitless _ := False
  amount g _ _ := amountOf (kind g.2)
  payload g _ d := payOf m ρ g.1.1 d (kind g.2)
  amount_pos g _ _ _ := by
    show 0 < amountOf (kind g.2)
    rcases kind g.2 with _ | _ | _ | _
    · exact N_pos
    · exact Nat.one_pos
    · exact N_pos
    · exact N_pos

instance Rd_payload_storable (g : GSem nD τ sig) (r : ℕ) (d : Dev nD) :
    BI.Storable (upEmb : UEmb _ 𝕄) ((Rd (F := F) m ρ).payload g r d) := payOf_storable m ρ _ _ _

section Tables
variable (c p : Dev nD)

theorem duties_zero (sm : SemLoc sig) : (Rd (F := F) m ρ).duties ((c : Thread nD τ), sm) 0 = dutiesOf c (kind sm) := by
  dsimp only [Rd]; exact if_pos ⟨rfl, rfl⟩
theorem duties_bar : (Rd (F := F) m ρ).duties (barCell c) 0 = Finset.univ.erase c := by
  exact duties_zero m ρ c _
theorem duties_send : (Rd (F := F) m ρ).duties (sendCell c p) 0 = if p = c then ∅ else {c} := by
  rw [duties_zero]; rw [kind_send]; rfl
theorem duties_recv : (Rd (F := F) m ρ).duties (recvCell c p) 0 = if p = c then ∅ else {p} := by
  rw [duties_zero]; rw [kind_recv]; rfl
theorem duties_later (g : GSem nD τ sig) : ∀ r, 1 ≤ r → (Rd (F := F) m ρ).duties g r = ∅ :=
  fun r hr => if_neg fun h => by omega
theorem duties_self_send : ∀ r, 0 ≤ r → (Rd (F := F) m ρ).duties (sendCell c c) r = ∅ := fun r _ => by
  rcases Nat.eq_zero_or_pos r with rfl | h
  · rw [duties_send, if_pos rfl]
  · exact duties_later m ρ _ r h
theorem duties_self_recv : ∀ r, 0 ≤ r → (Rd (F := F) m ρ).duties (recvCell c c) r = ∅ := fun r _ => by
  rcases Nat.eq_zero_or_pos r with rfl | h
  · rw [duties_recv, if_pos rfl]
  · exact duties_later m ρ _ r h

theorem amount_bar (d : Dev nD) : (Rd (F := F) m ρ).amount (barCell c) 0 d = 1 := rfl
theorem amount_send (d : Dev nD) : (Rd (F := F) m ρ).amount (sendCell c p) 0 d = N := by
  show amountOf (kind (.dma (sendQ p))) = N; rw [kind_send]; rfl
theorem amount_recv (d : Dev nD) : (Rd (F := F) m ρ).amount (recvCell c p) 0 d = N := by
  show amountOf (kind (.dma (recvQ p))) = N; rw [kind_recv]; rfl

theorem payload_bar (d : Dev nD) : (Rd (F := F) m ρ).payload (barCell c) 0 d = iprop(∃ f, slotPts d c fullShare f) := rfl
theorem payload_send (d : Dev nD) : (Rd (F := F) m ρ).payload (sendCell c p) 0 d = slotPts c c (eighth p) (gath m ρ) := by
  show payOf m ρ c d (kind (.dma (sendQ p))) = _; rw [kind_send]; rfl
theorem payload_recv (d : Dev nD) : (Rd (F := F) m ρ).payload (recvCell c p) 0 d = slotPts c p fullShare (gath m ρ) := by
  show payOf m ρ c d (kind (.dma (recvQ p))) = _; rw [kind_recv]; rfl

theorem expect_bar : (Rd (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
  rfl
theorem expect_send (h : p ≠ c) : (Rd (F := F) m ρ).expect (sendCell c p) 0 = N := by
  unfold Schedule.expect Schedule.amountOf; rw [duties_send, if_neg h, Finset.sum_singleton, amount_send]
theorem expect_recv (h : p ≠ c) : (Rd (F := F) m ρ).expect (recvCell c p) 0 = N := by
  unfold Schedule.expect Schedule.amountOf; rw [duties_recv, if_neg h, Finset.sum_singleton, amount_recv]

theorem rest_send (h : p ≠ c) : bigSep ((Rd (F := F) m ρ).duties (sendCell c p) 0 \ ∅) (fun d => (Rd (F := F) m ρ).payload (sendCell c p) 0 d)
    = slotPts c c (eighth p) (gath m ρ) := by
  rw [Finset.sdiff_empty, duties_send, if_neg h, bigSep_singleton, payload_send]
theorem rest_recv (h : p ≠ c) : bigSep ((Rd (F := F) m ρ).duties (recvCell c p) 0 \ ∅) (fun d => (Rd (F := F) m ρ).payload (recvCell c p) 0 d)
    = slotPts c p fullShare (gath m ρ) := by
  rw [Finset.sdiff_empty, duties_recv, if_neg h, bigSep_singleton, payload_recv]
end Tables

/-! ## What each device owes; the levels -/

/-- `unlessSelf c p X`: nothing when `p` is the device itself. -/
def unlessSelf (c p : Dev nD) (X : sProp 𝕄) : sProp 𝕄 := if p = c then iprop(emp) else X

omit [FloatOps F] in
theorem unlessSelf_self (c : Dev nD) (X : sProp 𝕄) : unlessSelf c c X = iprop(emp) := if_pos rfl
omit [FloatOps F] in
theorem unlessSelf_ne {c p : Dev nD} (h : p ≠ c) (X : sProp 𝕄) : unlessSelf c p X = X := if_neg h

def sendDue (c p : Dev nD) : CellTallies nD τ sig Unit := if p = c then 0 else tallyAt (recvCell p c) () N
def barDue (c p : Dev nD) : CellTallies nD τ sig Unit := if p = c then 0 else tallyAt (barCell p) () 1

/-- The peers in the reverse of the order in which a device serves them. -/
def rev (k : ℕ) : Dev nD := ⟨7 - k % 8, by show 7 - k % 8 < 8; omega⟩

/-- What device `c` still owes before its last `k` copies; -/
def owedS (c : Dev nD) : ℕ → CellTallies nD τ sig Unit
  | 0 => 0
  | k + 1 => owedS c k + sendDue c (rev k)
/-- before its last `k` barrier units. -/
def owedB (c : Dev nD) : ℕ → CellTallies nD τ sig Unit
  | 0 => owedS c 8
  | k + 1 => owedB c k + barDue c (rev k)

theorem owedS_succ (c : Dev nD) (k : ℕ) : owedS c (k + 1) = owedS c k + sendDue c (rev k) := rfl
theorem owedB_succ (c : Dev nD) (k : ℕ) : owedB c (k + 1) = owedB c k + barDue c (rev k) := rfl

/-- What it owes at launch. -/
def O₀ (c : Dev nD) : CellTallies nD τ sig Unit := owedB c 8

theorem owedS_pos {c : Dev nD} {g : GSem nD τ sig} {u : Unit} : ∀ n, 0 < owedS c n g u → ∃ p, g = recvCell p c
  | 0, h => absurd h (Nat.lt_irrefl 0)
  | n + 1, h => by
    unfold owedS at h
    rw [Pi.add_apply, Finsupp.add_apply] at h
    by_cases h1 : 0 < owedS c n g u
    · exact owedS_pos n h1
    · have h2 : 0 < sendDue c (rev n) g u := by omega
      unfold sendDue at h2
      split at h2
      · exact absurd h2 (Nat.lt_irrefl 0)
      · rw [tallyAt_apply] at h2
        by_cases h3 : g = recvCell (rev n) c ∧ u = ()
        · exact ⟨_, h3.1⟩
        · rw [if_neg h3] at h2; exact absurd h2 (Nat.lt_irrefl 0)

theorem owedB_pos {c : Dev nD} {g : GSem nD τ sig} {u : Unit} : ∀ n, 0 < owedB c n g u →
    (∃ p, g = recvCell p c) ∨ ∃ p, g = barCell p
  | 0, h => .inl (owedS_pos 8 h)
  | n + 1, h => by
    unfold owedB at h
    rw [Pi.add_apply, Finsupp.add_apply] at h
    by_cases h1 : 0 < owedB c n g u
    · exact owedB_pos n h1
    · have h2 : 0 < barDue c (rev n) g u := by omega
      unfold barDue at h2
      split at h2
      · exact absurd h2 (Nat.lt_irrefl 0)
      · rw [tallyAt_apply] at h2
        by_cases h3 : g = barCell (rev n) ∧ u = ()
        · exact .inr ⟨_, h3.1⟩
        · rw [if_neg h3] at h2; exact absurd h2 (Nat.lt_irrefl 0)

def L (g : GSem nD τ sig) : Finset Unit := if g.1.2 = .tc then {()} else ∅
def lvOf : Option Cell → ℕ
  | some (.inl _) => 1
  | some (.inr (.inr _)) => 2
  | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (p c : Dev nD) (u : Unit) : lv (recvCell p c) u = 2 := by
  show lvOf (kind (.dma (recvQ c))) = 2; rw [kind_recv]; rfl
theorem lv_bar (p : Dev nD) (u : Unit) : lv (barCell p) u = 1 := rfl

omit [FloatOps F] in
/-- The staging waits are below everything a device owes. -/
theorem mayWait_stage (c : Dev nD) (q : DmaSem sig) (hq : q.val < 3) (n : ℕ) :
    (levAts L lv : sProp 𝕄) ⊢ MayWait (c : Thread nD τ) (.dma q) () (owedB c n) :=
  MayOwe.of_cut (L := L) (lev := lv) 0 (fun p hp => by rw [Finset.mem_singleton.mp hp, L_tc]; exact Finset.mem_singleton_self _)
    (fun g u hg => by rcases owedB_pos n hg with ⟨p, rfl⟩ | ⟨p, rfl⟩ <;> exact Finset.mem_singleton_self _)
    (fun p hp => by
      rw [Finset.mem_singleton.mp hp]
      show lvOf (kind (.dma q)) ≤ 0
      rw [show kind (.dma q) = none from if_pos hq]; exact le_rfl)
    (fun g u hg => by
      rcases owedB_pos n hg with ⟨p, rfl⟩ | ⟨p, rfl⟩
      · rw [lv_recv]; decide
      · rw [lv_bar]; decide)

omit [FloatOps F] in
/-- At its barrier wait a device owes its copies only: receive cells, above its barrier cell. -/
theorem mayWait_bar (c : Dev nD) (n : ℕ) :
    (levAts L lv : sProp 𝕄) ⊢ MayWait (c : Thread nD τ) (.reg barS) () (owedS c n) :=
  MayOwe.of_cut (L := L) (lev := lv) 1 (fun p hp => by rw [Finset.mem_singleton.mp hp, L_tc]; exact Finset.mem_singleton_self _)
    (fun g u hg => by obtain ⟨p, rfl⟩ := owedS_pos n hg; exact Finset.mem_singleton_self _)
    (fun p hp => by rw [Finset.mem_singleton.mp hp]; exact le_of_eq (lv_bar c ()))
    (fun g u hg => by obtain ⟨p, rfl⟩ := owedS_pos n hg; rw [lv_recv]; decide)

end Cert.AllMax
-- ==== Proof.Steps.lean ====
/-
# One step of the kernel with one peer

For each peer `p` in turn the kernel signals `p`'s barrier, copies its two rows to `p`, waits for `p`'s rows, and
waits until its own copy to `p` has been read — each only when `p` is not the device itself. Here every one of these
steps is proved once, for any device `c` and any peer `p`. Everything `c` holds about `p` is one bundle:
`before` until the copies may start, `ready` then, `sent`, `got`, and `done` at the end.
-/
module

public import proofs.«01_k».proof.Proof.Protocol

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel's programs. -/
abbrev PR (F : FTy → Type) (α : Type) : Type 1 := Prog (TpuEff nD τ sig (Elt F) Λ₀ .tc) α

variable (m : (ℓ : Loc nD τ sig) → Buf (Elt F) ℓ) (ρ : Dev nD → PrngReg)

abbrev 𝒱₀ : Variants := Variants.none

/-- What it takes for program `P` to end in `Q` on device `c`. -/
abbrev run (c : Dev nD) {α : Type} (P : PR F α) (Q : α → sProp 𝕄) : sProp 𝕄 :=
  wp frame (wpE (defs₀ (F := F)) 𝒱₀ (c : Thread nD τ) none) Set.univ P Q

/-! ## The records every step reads -/

/-- The invariant of every cell, and that every cell has reached round 0. -/
def records (K : Dev nD × Cell → ℕ) : sProp 𝕄 :=
  iprop((bigSep Finset.univ fun ck : Dev nD × Cell => cellInv ER (Rd m ρ) (K ck) (kcell ck))
    ∗ bigSep Finset.univ fun ck : Dev nD × Cell => reached ER (kcell ck) 0)

instance records_persistent (K : Dev nD × Cell → ℕ) : BI.Persistent (records m ρ K) := by unfold records; infer_instance

variable (K : Dev nD × Cell → ℕ)

theorem inv_at (ck : Dev nD × Cell) : records m ρ K ⊢ cellInv ER (Rd m ρ) (K ck) (kcell ck) := by
  unfold records
  iintro ⟨H, -⟩
  iapply (show (bigSep Finset.univ fun ck : Dev nD × Cell => (cellInv ER (Rd m ρ) (K ck) (kcell ck) : sProp 𝕄)) ⊢ cellInv ER (Rd m ρ) (K ck) (kcell ck)
    from bigSep_elim (Finset.mem_univ ck)); iexact H

theorem reached_at (ck : Dev nD × Cell) : records m ρ K ⊢ reached ER (kcell ck) 0 := by
  unfold records
  iintro ⟨-, H⟩
  iapply (show (bigSep Finset.univ fun ck : Dev nD × Cell => (reached ER (kcell ck) 0 : sProp 𝕄)) ⊢ reached ER (kcell ck) 0
    from bigSep_elim (Finset.mem_univ ck)); iexact H

/-! ## The bundles -/

/-- That device `c` owes `O`, whatever it has waited for. -/
def owing (c : Dev nD) (O : CellTallies nD τ sig Unit) : sProp 𝕄 := iprop(∃ W, owes (c : Thread nD τ) O W)

/-- For the barrier unit to `p`: its duty and the slot of `c` that `p` will fill. -/
def toSignal (c p : Dev nD) : sProp 𝕄 :=
  unlessSelf c p iprop(dutyTok ER (barCell p) 0 c ∗ ∃ f, slotPts c p fullShare f)

def before (c p : Dev nD) : sProp 𝕄 :=
  iprop(unlessSelf c p iprop(dutyTok ER (sendCell c p) 0 c ∗ dutyTok ER (recvCell p c) 0 c ∗ cred (tallyAt (recvCell c p) () N))
    ∗ atPos ER (sendCell c p) 0 ∅ 0 ∗ atPos ER (recvCell c p) 0 ∅ 0)

def ready (c p : Dev nD) : sProp 𝕄 :=
  iprop(before c p ∗ slotPts c c (eighth p) (gath m ρ) ∗ unlessSelf c p iprop(∃ f, slotPts p c fullShare f))

def sent (c p : Dev nD) : sProp 𝕄 :=
  if p = c then iprop(slotPts c c (eighth c) (gath m ρ) ∗ atPos ER (sendCell c c) 0 ∅ 0 ∗ atPos ER (recvCell c c) 0 ∅ 0)
  else iprop(cred (tallyAt (sendCell c p) () N) ∗ cred (tallyAt (recvCell c p) () N)
    ∗ atPos ER (sendCell c p) 0 ∅ 0 ∗ atPos ER (recvCell c p) 0 ∅ 0)

def got (c p : Dev nD) : sProp 𝕄 :=
  if p = c then iprop(slotPts c c (eighth c) (gath m ρ) ∗ atPos ER (sendCell c c) 0 ∅ 0 ∗ atPos ER (recvCell c c) 0 ∅ 0)
  else iprop(slotPts c p fullShare (gath m ρ) ∗ cred (tallyAt (sendCell c p) () N)
    ∗ atPos ER (sendCell c p) 0 ∅ 0 ∗ atPos ER (recvCell c p) 1 ∅ 0)

def finished (c p : Dev nD) : sProp 𝕄 :=
  iprop(slotPts c c (eighth p) (gath m ρ) ∗ unlessSelf c p (slotPts c p fullShare (gath m ρ))
    ∗ semVal (sendCell c p) 0 ∗ semVal (recvCell c p) 0)

/-! ## The programs of the steps -/

/-- A barrier unit to `p`, then `k`. -/
inductive IsSignal {α : Type} (p : Dev nD) (k : PR F α) : PR F α → Prop
  | mk (d : Dev nD) (hd : d = p) : IsSignal p k (semSignalWord d barS 1#32 >>= fun _ => k)

/-- The copy of device `c`'s own slot to device `p`, then `k`. -/
inductive IsSend {α : Type} (c p : Dev nD) (k : PR F α) : PR F α → Prop
  | mk (d : Dev nD) (off off' : Fin 3 → Nat) (h h') (qs qr : DmaSem sig) (hsc hsrc hdst hsem) (hd : d = p) (ho : off = ![c.val, 0, 0])
      (ho' : off' = ![c.val, 0, 0]) (hqs : qs = sendQ p) (hqr : qr = recvQ c) :
    IsSend c p k (Prog.lift (.enqueueDma (slotM off h) (.remote (Dev.tc d) (slotM off' h') (.dma qs) hsc) (.dma qr) hsrc hdst hsem) >>= fun _ => k)

/-- A wait for the credit of one slot on DMA semaphore `q`, then `k`. -/
inductive IsWait {α : Type} (q : DmaSem sig) (k : PR F α) : PR F α → Prop
  | mk (q' : DmaSem sig) (off off' : Fin 3 → Nat) (h h') (h1 h2) (hq : q' = q) :
    IsWait q k (Prog.lift (.waitDma2 q' (slotM off h) (slotM off' h') h1 h2) >>= fun _ => k)

/-! ## The steps -/

theorem signal_step (c p : Dev nD) {α : Type} {cond : BitVec 1} {X : cond = 1#1 → PR F α} {k : PR F α} {Q : α → sProp 𝕄}
    (n : ℕ) (hcond : cond = 1#1 ↔ p ≠ c) (hn : rev n = p) (hX : ∀ h, IsSignal p k (X h)) :
    iprop(records m ρ K ∗ toSignal c p ∗ owing c (owedB c (n + 1)))
      ⊢ iprop((owing c (owedB c n) -∗ run c k Q) -∗ run c (dite (cond = 1#1) X fun _ => k) Q) := by
  by_cases hp : p = c
  · rw [dif_neg (fun h => (hcond.mp h) hp)]
    subst hp
    rw [owedB_succ, hn, show barDue p p = 0 from if_pos rfl, add_zero]
    iintro ⟨-, -, HO⟩ Hk
    iapply Hk; iexact HO
  · rw [dif_pos (hcond.mpr hp)]
    have hP := hX (hcond.mpr hp)
    generalize X (hcond.mpr hp) = P at hP ⊢
    obtain ⟨d, hd⟩ := hP
    subst hd
    unfold toSignal owing
    rw [unlessSelf_ne hp]
    simp only [semSignalWord, Prog.bind_op, Prog.bind_ret]
    iintro ⟨#HR, ⟨Ht, %f, Hs⟩, %W, HO⟩ Hk
    iapply (Rounds.wp_signal 𝒱₀ ER (Rd m ρ) (c : Thread nD τ) none (dst := (d : Thread nD τ)) (κ := K (d, .inl ()))
      (d := c) (O₀ := owedB c (n + 1)) (by rw [duties_bar]; exact Finset.mem_erase.mpr ⟨fun h => hp h.symm, Finset.mem_univ _⟩)
      ((amount_bar m ρ d c).trans (by decide)) () (owedB c n)
      (by rw [owedB_succ, hn, show barDue c d = _ from if_neg hp]; rfl)) $$ [HO Ht Hs]
    · isplitr; · iapply (inv_at m ρ K (d, .inl ())); iexact HR
      isplitl [HO]; · iexact HO
      isplitl [Ht]; · iexact Ht
      isplitl [Hs]
      · rw [payload_bar]; iexists f; iexact Hs
      · iapply (reached_at m ρ K (d, .inl ())); iexact HR
    iintro HO
    iapply Hk; iexists W; iexact HO

theorem send_step (c p : Dev nD) {α : Type} {cond : BitVec 1} {X : cond = 1#1 → PR F α} {k : PR F α} {Q : α → sProp 𝕄}
    (n : ℕ) (hcond : cond = 1#1 ↔ p ≠ c) (hn : rev n = p) (hX : ∀ h, IsSend c p k (X h)) :
    iprop(records m ρ K ∗ ready m ρ c p ∗ owing c (owedS c (n + 1)))
      ⊢ iprop(((sent m ρ c p ∗ owing c (owedS c n)) -∗ run c k Q) -∗ run c (dite (cond = 1#1) X fun _ => k) Q) := by
  by_cases hp : p = c
  · rw [dif_neg (fun h => (hcond.mp h) hp)]
    subst hp
    rw [owedS_succ, hn, show sendDue p p = 0 from if_pos rfl, add_zero]
    unfold ready sent before
    rw [if_pos rfl]
    iintro ⟨-, ⟨⟨-, Ha, Hb⟩, Hs, -⟩, HO⟩ Hk
    iapply Hk
    isplitr [HO]
    · isplitl [Hs]; · iexact Hs
      isplitl [Ha] <;> iassumption
    · iexact HO
  · rw [dif_pos (hcond.mpr hp)]
    have hP := hX (hcond.mpr hp)
    generalize X (hcond.mpr hp) = P at hP ⊢
    obtain ⟨d, off, off', h, h', qs, qr, hsc, hsrc, hdst, hsem, hd, ho, ho', hqs, hqr⟩ := hP
    subst hd hqs hqr
    unfold ready sent before owing
    rw [unlessSelf_ne hp, unlessSelf_ne hp, if_neg hp]
    simp only [Prog.lift, Prog.bind_op, Prog.bind_ret]
    iintro ⟨#HR, ⟨⟨⟨HtS, HtV, HcV⟩, Ha, Hb⟩, Hs, %fd, Hd⟩, %W, HO⟩ Hk
    have h1 : (Rd m ρ).amount (sendCell c d) 0 c = N := amount_send m ρ c d c
    have h2 : (Rd m ρ).amount (recvCell d c) 0 c = N := amount_recv m ρ d c c
    have h3 : (slotM off' h').view.amount (.dma (recvQ c)) = N := rfl
    have h4 : c ∈ (Rd m ρ).duties (sendCell c d) 0 := by rw [duties_send, if_neg hp]; exact Finset.mem_singleton_self _
    have h5 : c ∈ (Rd m ρ).duties (recvCell d c) 0 := by rw [duties_recv, if_neg (fun h => hp h.symm)]; exact Finset.mem_singleton_self _
    have h6 : owedS c (n + 1) = owedS c n + tallyAt (recvCell d c) () N := by rw [owedS_succ, hn, show sendDue c d = _ from if_neg hp]
    have h7 : (((c : Thread nD τ).loc cc0_scratch3) ↦[(slotM off h).view.set]{eighth d} gath m ρ) ⊢ (Rd m ρ).payload (sendCell c d) 0 c := by
      rw [payload_send, slotM_set c off h ho]; exact BI.Entails.refl _
    have h8 : (((d : Thread nD τ).loc cc0_scratch3) ↦[(slotM off' h').view.set]{fullShare}
        ((slotM off' h').view.write (Elt F) fd ((slotM off h).view.read (Elt F) (gath m ρ)) Finset.univ)) ⊢ (Rd m ρ).payload (recvCell d c) 0 c := by
      rw [payload_recv, slotM_set c off' h' ho']
      subst ho ho'
      exact Entails.of_eq (pointsTo_congr fun i hi => landing m ρ c _ h rfl fd i hi)
    iapply (Rounds.wp_send_pointsTo 𝒱₀ ER (Rd m ρ) (c : Thread nD τ) none (c' := (d : Thread nD τ)) (src := slotM off h) (dst := slotM off' h')
      (sS := .dma (sendQ d)) (sem := .dma (recvQ c)) (κ₁ := K (c, .inr (.inl d))) (κ₂ := K (d, .inr (.inr c)))
      (r₁ := 0) (r₂ := 0) (d₁ := c) (d₂ := c) (q := eighth d) (fs := gath m ρ) (fd := fd)
      h4 h5 () () N h3 h1 h2 (owedS c n) h6 (W := W) h7 h8) $$ [Hs Hd HO HtS HtV]
    · isplitr; · iapply (inv_at m ρ K (c, .inr (.inl d))); iexact HR
      isplitr; · iapply (inv_at m ρ K (d, .inr (.inr c))); iexact HR
      isplitl [Hs]; · rw [slotM_set c off h ho]; unfold slotPts; iexact Hs
      isplitl [Hd]; · rw [slotM_set c off' h' ho']; unfold slotPts; iexact Hd
      isplitl [HO]; · iexact HO
      isplitl [HtS]; · iexact HtS
      isplitr; · iapply (reached_at m ρ K (c, .inr (.inl d))); iexact HR
      isplitl [HtV]; · iexact HtV
      iapply (reached_at m ρ K (d, .inr (.inr c))); iexact HR
    iintro ⟨HcS, HO⟩
    iapply Hk
    isplitr [HO]
    · isplitl [HcS]; · iexact HcS
      isplitl [HcV]; · iexact HcV
      isplitl [Ha] <;> iassumption
    · iexists W; iexact HO

theorem recv_step (c p : Dev nD) {α : Type} {cond : BitVec 1} {X : cond = 1#1 → PR F α} {k : PR F α} {Q : α → sProp 𝕄}
    (hcond : cond = 1#1 ↔ p ≠ c) (hX : ∀ h, IsWait (recvQ p) k (X h)) :
    iprop(records m ρ K ∗ sent m ρ c p ∗ owing c 0)
      ⊢ iprop(((got m ρ c p ∗ owing c 0) -∗ run c k Q) -∗ run c (dite (cond = 1#1) X fun _ => k) Q) := by
  by_cases hp : p = c
  · rw [dif_neg (fun h => (hcond.mp h) hp)]
    unfold sent got
    rw [if_pos hp, if_pos hp]
    iintro ⟨-, Hs, HO⟩ Hk
    iapply Hk
    isplitl [Hs] <;> iassumption
  · rw [dif_pos (hcond.mpr hp)]
    have hP := hX (hcond.mpr hp)
    generalize X (hcond.mpr hp) = P at hP ⊢
    obtain ⟨q, off, off', h, h', h1, h2, hq⟩ := hP
    subst hq
    unfold sent got owing
    rw [if_neg hp, if_neg hp]
    simp only [Prog.lift, Prog.bind_op, Prog.bind_ret]
    iintro ⟨#HR, ⟨HcS, HcV, Ha, Hb⟩, %W, HO⟩ Hk
    iapply (Rounds.wp_wait_rest_token 𝒱₀ ER (Rd m ρ) (c : Thread nD τ) none (κ := K (c, .inr (.inr p)))
      (wpE_waitDma2_eq 𝒱₀ (c : Thread nD τ) none Set.univ) (Set.mem_univ _) () (O := 0) (W := W) (R := 0) (m := 0) (T := ∅)
      (by rw [Nat.zero_add, expect_recv m ρ c p hp])) $$ [HcV HO Hb]
    · isplitr; · iapply (inv_at m ρ K (c, .inr (.inr p))); iexact HR
      isplitl [HcV]; · iexact HcV
      isplitl [HO]; · iexact HO
      isplitr; · rw [MayWait_zero]; iempintro
      iexact Hb
    iintro ⟨HO, Hb, -, Hpay⟩
    ihave Hs := (Entails.of_eq (rest_recv m ρ c p hp)) $$ Hpay
    iapply Hk
    isplitr [HO]
    · isplitl [Hs]; · iexact Hs
      isplitl [HcS]; · iexact HcS
      isplitl [Ha] <;> iassumption
    · iexists _; iexact HO

theorem drain_step (c p : Dev nD) {α : Type} {cond : BitVec 1} {X : cond = 1#1 → PR F α} {k : PR F α} {Q : α → sProp 𝕄}
    (hcond : cond = 1#1 ↔ p ≠ c) (hX : ∀ h, IsWait (sendQ p) k (X h)) :
    iprop(records m ρ K ∗ got m ρ c p ∗ owing c 0)
      ⊢ iprop(((finished m ρ c p ∗ owing c 0) -∗ run c k Q) -∗ run c (dite (cond = 1#1) X fun _ => k) Q) := by
  by_cases hp : p = c
  · rw [dif_neg (fun h => (hcond.mp h) hp)]
    subst hp
    unfold got finished
    rw [if_pos rfl, unlessSelf_self]
    iintro ⟨#HR, ⟨Hs, Ha, Hb⟩, HO⟩ Hk
    imod (Rounds.cell_close ER (Rd m ρ) (Set.mem_univ (K (p, .inr (.inl p)))) (fun h => h) (R := 0) (duties_self_send m ρ p)) $$ [Ha] with Hza
    · isplitr; · iapply (inv_at m ρ K (p, .inr (.inl p))); iexact HR
      iexact Ha
    imod (Rounds.cell_close ER (Rd m ρ) (Set.mem_univ (K (p, .inr (.inr p)))) (fun h => h) (R := 0) (duties_self_recv m ρ p)) $$ [Hb] with Hzb
    · isplitr; · iapply (inv_at m ρ K (p, .inr (.inr p))); iexact HR
      iexact Hb
    iapply Hk
    isplitr [HO]
    · isplitl [Hs]; · iexact Hs
      isplitr; · iempintro
      isplitl [Hza] <;> iassumption
    · iexact HO
  · rw [dif_pos (hcond.mpr hp)]
    have hP := hX (hcond.mpr hp)
    generalize X (hcond.mpr hp) = P at hP ⊢
    obtain ⟨q, off, off', h, h', h1, h2, hq⟩ := hP
    subst hq
    unfold got finished owing
    rw [if_neg hp, unlessSelf_ne hp]
    simp only [Prog.lift, Prog.bind_op, Prog.bind_ret]
    iintro ⟨#HR, ⟨Hs, HcS, Ha, Hb⟩, %W, HO⟩ Hk
    iapply (Rounds.wp_wait_rest_token 𝒱₀ ER (Rd m ρ) (c : Thread nD τ) none (κ := K (c, .inr (.inl p)))
      (wpE_waitDma2_eq 𝒱₀ (c : Thread nD τ) none Set.univ) (Set.mem_univ _) () (O := 0) (W := W) (R := 0) (m := 0) (T := ∅)
      (by rw [Nat.zero_add, expect_send m ρ c p hp])) $$ [HcS HO Ha]
    · isplitr; · iapply (inv_at m ρ K (c, .inr (.inl p))); iexact HR
      isplitl [HcS]; · iexact HcS
      isplitl [HO]; · iexact HO
      isplitr; · rw [MayWait_zero]; iempintro
      iexact Ha
    iintro ⟨HO, Ha, -, Hpay⟩
    ihave Ho := (Entails.of_eq (rest_send m ρ c p hp)) $$ Hpay
    imod (Rounds.cell_close ER (Rd m ρ) (Set.mem_univ (K (c, .inr (.inl p)))) (fun h => h) (R := 0 + 1) (duties_later m ρ _)) $$ [Ha] with Hza
    · isplitr; · iapply (inv_at m ρ K (c, .inr (.inl p))); iexact HR
      iexact Ha
    imod (Rounds.cell_close ER (Rd m ρ) (Set.mem_univ (K (c, .inr (.inr p)))) (fun h => h) (R := 1) (duties_later m ρ _)) $$ [Hb] with Hzb
    · isplitr; · iapply (inv_at m ρ K (c, .inr (.inr p))); iexact HR
      iexact Hb
    iapply Hk
    isplitr [HO]
    · isplitl [Ho]; · iexact Ho
      isplitl [Hs]; · iexact Hs
      isplitl [Hza]; · iexact Hza
      iexact Hzb
    · iexists _; iexact HO

/-- A device reads row `r` of slot `p` once it has `p`'s rows. -/
theorem read_step (c p : Dev nD) (r : Nat) (hr : ∀ a, (![p.val, r, 0] : Fin 3 → Nat) a + S1x1x1024.size a ≤ S8x2x1024.size a)
    {hl : gM.view.LoadsAt (Rect.unit (s := S8x2x1024) ![p.val, r, 0] S1x1x1024.size hr).toLoadRect}
    {α : Type} {k : Vec F S1x1x1024 .f32 → PR F α} {Q : α → sProp 𝕄} :
    got m ρ c p ⊢ iprop((got m ρ c p -∗ run c (k (gM.view.readAt (Elt F) (Rect.unit (s := S8x2x1024) ![p.val, r, 0] S1x1x1024.size hr).toLoadRect (gath m ρ))) Q)
      -∗ run c (.op (.load gM (Rect.unit (s := S8x2x1024) ![p.val, r, 0] S1x1x1024.size hr).toLoadRect hl) k) Q) := by
  unfold got
  by_cases hp : p = c
  · rw [if_pos hp]
    subst hp
    unfold slotPts
    iintro ⟨Hs, Ha, Hb⟩ Hk
    iapply (wp_load 𝒱₀ (p : Thread nD τ) none Set.univ (m := gM) (row_access p r hr)) $$ Hs; iintro Hs
    iapply Hk
    isplitl [Hs]; · iexact Hs
    isplitl [Ha]; · iexact Ha
    iexact Hb
  · rw [if_neg hp]
    unfold slotPts
    iintro ⟨Hs, Hc, Ha, Hb⟩ Hk
    iapply (wp_load 𝒱₀ (c : Thread nD τ) none Set.univ (m := gM) (row_access p r hr)) $$ Hs; iintro Hs
    iapply Hk
    isplitl [Hs]; · iexact Hs
    isplitl [Hc]; · iexact Hc
    isplitl [Ha] <;> iassumption

end Cert.AllMax
-- ==== Proof.Buffers.lean ====
/-
# Loads and stores of the kernel's whole buffers

The running maxima, the running row numbers (as integers while a device folds its own block, as floats while it
folds what the others sent) and the output block are loaded and stored whole. The fold over the slots is named here
too: `foldV p` and `foldI p` are the two buffers once slots `0 … p` have been folded in.
-/
module

public import proofs.«01_k».proof.Proof.Steps

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem hz : (![0, 0] : Fin 2 → Nat) = fun _ => 0 := funext fun a => by fin_cases a <;> rfl

abbrev rOne : Rect S1x1024 := Rect.unit (s := S1x1024) ![0, 0] S1x1024.size inb_S1x1024_S1x1024_0_0

/-- Device `c`'s buffer `b` holds `X`. -/
abbrev holds (c : Dev nD) (b : Ref sig .tc) (X : b.ty.Contents (Elt F)) : sProp 𝕄 := ((c : Thread nD τ).loc b) ↦{fullShare} X

section
variable (c : Dev nD) {α : Type}

theorem load_val (X : (cc0_scratch0 : Ref sig .tc).ty.Contents (Elt F)) {hl : valM.view.LoadsAt rOne.toLoadRect} {k : Vec F S1x1024 .f32 → PR F α} {Q : α → sProp 𝕄} :
    holds c cc0_scratch0 X ⊢ iprop((holds c cc0_scratch0 X -∗ run c (k X) Q) -∗ run c (.op (.load valM rOne.toLoadRect hl) k) Q) := by
  iintro H Hk
  iapply (wp_load 𝒱₀ (c : Thread nD τ) none Set.univ (m := valM) (Finset.subset_univ _)) $$ H
  iintro H
  rw [show valM.view.readAt (Elt F) rOne.toLoadRect X = X from Memref.readAt_unit_zero (Elt F) cc0_scratch0 hz _ X]
  iapply Hk; iexact H

theorem store_val (X w : (cc0_scratch0 : Ref sig .tc).ty.Contents (Elt F)) {hx : (valM.access rOne).Stores Finset.univ} {hm} {k : PUnit → PR F α} {Q : α → sProp 𝕄} :
    holds c cc0_scratch0 X ⊢ iprop((holds c cc0_scratch0 w -∗ run c (k ⟨⟩) Q) -∗ run c (.op (.store valM rOne w Finset.univ hx hm) k) Q) := by
  iintro H Hk
  iapply (wp_store 𝒱₀ (c : Thread nD τ) none Set.univ (m := valM) (r := rOne) (Mk := Finset.univ) (Finset.subset_univ _)) $$ H
  iintro H
  rw [show (valM.access rOne).write (Elt F) X w Finset.univ = w from Memref.write_access_unit_zero_univ (Elt F) cc0_scratch0 hz _ X w]
  iapply Hk; iexact H

theorem load_idx (X : (cc0_scratch1 : Ref sig .tc).ty.Contents (Elt F)) {hl : idxM.view.LoadsAt rOne.toLoadRect} {k : Vec F S1x1024 .i32 → PR F α} {Q : α → sProp 𝕄} :
    holds c cc0_scratch1 X ⊢ iprop((holds c cc0_scratch1 X -∗ run c (k X) Q) -∗ run c (.op (.load idxM rOne.toLoadRect hl) k) Q) := by
  iintro H Hk
  iapply (wp_load 𝒱₀ (c : Thread nD τ) none Set.univ (m := idxM) (Finset.subset_univ _)) $$ H
  iintro H
  rw [show idxM.view.readAt (Elt F) rOne.toLoadRect X = X from Memref.readAt_unit_zero (Elt F) cc0_scratch1 hz _ X]
  iapply Hk; iexact H

theorem store_idx (X w : (cc0_scratch1 : Ref sig .tc).ty.Contents (Elt F)) {hx : (idxM.access rOne).Stores Finset.univ} {hm} {k : PUnit → PR F α} {Q : α → sProp 𝕄} :
    holds c cc0_scratch1 X ⊢ iprop((holds c cc0_scratch1 w -∗ run c (k ⟨⟩) Q) -∗ run c (.op (.store idxM rOne w Finset.univ hx hm) k) Q) := by
  iintro H Hk
  iapply (wp_store 𝒱₀ (c : Thread nD τ) none Set.univ (m := idxM) (r := rOne) (Mk := Finset.univ) (Finset.subset_univ _)) $$ H
  iintro H
  rw [show (idxM.access rOne).write (Elt F) X w Finset.univ = w from Memref.write_access_unit_zero_univ (Elt F) cc0_scratch1 hz _ X w]
  iapply Hk; iexact H

theorem load_id2 (X : (cc0_scratch2 : Ref sig .tc).ty.Contents (Elt F)) {hl : id2M.view.LoadsAt rOne.toLoadRect} {k : Vec F S1x1024 .f32 → PR F α} {Q : α → sProp 𝕄} :
    holds c cc0_scratch2 X ⊢ iprop((holds c cc0_scratch2 X -∗ run c (k X) Q) -∗ run c (.op (.load id2M rOne.toLoadRect hl) k) Q) := by
  iintro H Hk
  iapply (wp_load 𝒱₀ (c : Thread nD τ) none Set.univ (m := id2M) (Finset.subset_univ _)) $$ H
  iintro H
  rw [show id2M.view.readAt (Elt F) rOne.toLoadRect X = X from Memref.readAt_unit_zero (Elt F) cc0_scratch2 hz _ X]
  iapply Hk; iexact H

theorem store_id2 (X w : (cc0_scratch2 : Ref sig .tc).ty.Contents (Elt F)) {hx : (id2M.access rOne).Stores Finset.univ} {hm} {k : PUnit → PR F α} {Q : α → sProp 𝕄} :
    holds c cc0_scratch2 X ⊢ iprop((holds c cc0_scratch2 w -∗ run c (k ⟨⟩) Q) -∗ run c (.op (.store id2M rOne w Finset.univ hx hm) k) Q) := by
  iintro H Hk
  iapply (wp_store 𝒱₀ (c : Thread nD τ) none Set.univ (m := id2M) (r := rOne) (Mk := Finset.univ) (Finset.subset_univ _)) $$ H
  iintro H
  rw [show (id2M.access rOne).write (Elt F) X w Finset.univ = w from Memref.write_access_unit_zero_univ (Elt F) cc0_scratch2 hz _ X w]
  iapply Hk; iexact H

abbrev rOut : Rect S2x1024 := Rect.unit (s := S2x1024) ![0, 0] S2x1024.size inb_S2x1024_S2x1024_0_0

theorem load_out (X : (cc0_stg1_0 : Ref sig .tc).ty.Contents (Elt F)) {hl : oM.view.LoadsAt rOut.toLoadRect} {k : Vec F S2x1024 .f32 → PR F α} {Q : α → sProp 𝕄} :
    holds c cc0_stg1_0 X ⊢ iprop((holds c cc0_stg1_0 X -∗ run c (k X) Q) -∗ run c (.op (.load oM rOut.toLoadRect hl) k) Q) := by
  iintro H Hk
  iapply (wp_load 𝒱₀ (c : Thread nD τ) none Set.univ (m := oM) (Finset.subset_univ _)) $$ H
  iintro H
  rw [show oM.view.readAt (Elt F) rOut.toLoadRect X = X from Memref.readAt_unit_zero (Elt F) cc0_stg1_0 hz _ X]
  iapply Hk; iexact H

theorem store_out (X w : (cc0_stg1_0 : Ref sig .tc).ty.Contents (Elt F)) {hx : (oM.access rOut).Stores Finset.univ} {hm} {k : PUnit → PR F α} {Q : α → sProp 𝕄} :
    holds c cc0_stg1_0 X ⊢ iprop((holds c cc0_stg1_0 w -∗ run c (k ⟨⟩) Q) -∗ run c (.op (.store oM rOut w Finset.univ hx hm) k) Q) := by
  iintro H Hk
  iapply (wp_store 𝒱₀ (c : Thread nD τ) none Set.univ (m := oM) (r := rOut) (Mk := Finset.univ) (Finset.subset_univ _)) $$ H
  iintro H
  rw [show (oM.access rOut).write (Elt F) X w Finset.univ = w from Memref.write_access_unit_zero_univ (Elt F) cc0_stg1_0 hz _ X w]
  iapply Hk; iexact H
end

/-! ## The fold over the slots -/

variable (m : (ℓ : Loc nD τ sig) → Buf (Elt F) ℓ) (ρ : Dev nD → PrngReg)

theorem row_inb (p : Dev nD) (r : Fin 2) : ∀ a, (![p.val, r.val, 0] : Fin 3 → Nat) a + S1x1x1024.size a ≤ S8x2x1024.size a := by
  revert p r; decide

/-- Row `r` of slot `p`: row 0 is the maxima device `p` sent, row 1 the row numbers. -/
def slotRow (p : Dev nD) (r : Fin 2) : Vec F S1x1x1024 .f32 :=
  gM.view.readAt (Elt F) (Rect.unit (s := S8x2x1024) ![p.val, r.val, 0] S1x1x1024.size (row_inb p r)).toLoadRect (gath m ρ)

/-- One step of the fold: the larger value wins, the earlier one when they are equal. -/
def stepV (r : Vec F S1x1x1024 .f32) (v : Vec F S1x1024 .f32) : FVec F S1x1024 .f32 := k0_pay23 r v
def stepI (r ri : Vec F S1x1x1024 .f32) (v i : Vec F S1x1024 .f32) : FVec F S1x1024 .f32 := k0_pay29 r ri v i

def peer (n : ℕ) : Dev nD := ⟨n % 8, Nat.mod_lt _ (by decide)⟩

def foldV : ℕ → FVec F S1x1024 .f32
  | 0 => k0_pay12 (slotRow m ρ 0 0)
  | n + 1 => stepV (slotRow m ρ (peer (n + 1)) 0) (foldV n)
def foldI : ℕ → FVec F S1x1024 .f32
  | 0 => k0_pay13 (slotRow m ρ 0 1)
  | n + 1 => stepI (slotRow m ρ (peer (n + 1)) 0) (slotRow m ρ (peer (n + 1)) 1) (foldV m ρ n) (foldI n)

/-- The kernel's result on every device. -/
def result : FVec F S2x1024 .f32 := k0_pay53 (foldV m ρ 7) (foldI m ρ 7)

end Cert.AllMax
-- ==== Proof.Exchange.lean ====
/-
# The barrier and the device's own slot

A device writes its two rows into its own slot of its gather buffer, and waits at the barrier until every peer has
given it the slot it is to fill in that peer's buffer. After that it is ready to serve every peer.
-/
module

public import proofs.«01_k».proof.Proof.Buffers

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

theorem read_row (c p : Dev nD) (r : Fin 2) {off : Fin 3 → Nat} {hr : ∀ a, off a + S1x1x1024.size a ≤ S8x2x1024.size a} (ho : off = ![p.val, r.val, 0])
    {hl : gM.view.LoadsAt (Rect.unit (s := S8x2x1024) off S1x1x1024.size hr).toLoadRect}
    {α : Type} {k : Vec F S1x1x1024 .f32 → PR F α} {Q : α → sProp 𝕄} :
    got m ρ c p ⊢ iprop((got m ρ c p -∗ run c (k (slotRow m ρ p r)) Q) -∗ run c (.op (.load gM (Rect.unit (s := S8x2x1024) off S1x1x1024.size hr).toLoadRect hl) k) Q) := by
  subst ho
  exact read_step m ρ c p r.val (row_inb p r)

/-- A device loads its own slot, -/
theorem load_own (c : Dev nD) {off : Fin 3 → Nat} {h : ∀ a, off a + S1x2x1024.size a ≤ S8x2x1024.size a} (ho : off = ![c.val, 0, 0])
    (f : (cc0_scratch3 : Ref sig .tc).ty.Contents (Elt F)) {hl : gM.view.LoadsAt (slotR off h).toLoadRect}
    {α : Type} {k : Vec F S1x2x1024 .f32 → PR F α} {Q : α → sProp 𝕄} :
    slotPts c c fullShare f ⊢ iprop((slotPts c c fullShare f -∗ run c (k (gM.view.readAt (Elt F) (slotR off h).toLoadRect f)) Q)
      -∗ run c (.op (.load gM (slotR off h).toLoadRect hl) k) Q) := by
  unfold slotPts
  iintro H Hk
  iapply (wp_load_rect 𝒱₀ (c : Thread nD τ) none Set.univ (m := gM) (r := slotR off h) (Finset.Subset.antisymm_iff.mp (slot_access c off h ho)).1) $$ H
  iintro H
  iapply Hk; iexact H

/-- and stores its rows there. -/
theorem store_own (c : Dev nD) {off : Fin 3 → Nat} {h : ∀ a, off a + S1x2x1024.size a ≤ S8x2x1024.size a} (ho : off = ![c.val, 0, 0])
    (f : (cc0_scratch3 : Ref sig .tc).ty.Contents (Elt F)) {hx : (gM.access (slotR off h)).Stores Finset.univ} {hm}
    {α : Type} {k : PUnit → PR F α} {Q : α → sProp 𝕄} :
    slotPts c c fullShare f ⊢ iprop((slotPts c c fullShare (gath m ρ) -∗ run c (k ⟨⟩) Q)
      -∗ run c (.op (.store gM (slotR off h) (rows m ρ c) Finset.univ hx hm) k) Q) := by
  have he : (((c : Thread nD τ).loc cc0_scratch3) ↦[slotSet c]{fullShare} ((gM.access (slotR off h)).write (Elt F) f (rows m ρ c) Finset.univ) : sProp 𝕄)
      = (((c : Thread nD τ).loc cc0_scratch3) ↦[slotSet c]{fullShare} (gath m ρ)) :=
    pointsTo_congr fun i hi => own_store m ρ c off h ho f i hi
  unfold slotPts
  iintro H Hk
  iapply (wp_store 𝒱₀ (c : Thread nD τ) none Set.univ (m := gM) (r := slotR off h) (Mk := Finset.univ) (w := rows m ρ c) (S := slotSet c) (f := f)
    (Finset.Subset.antisymm_iff.mp (slot_access c off h ho)).1) $$ H
  iintro H
  iapply Hk
  iapply (Entails.of_eq he) $$ H

theorem erase_unless (c : Dev nD) (Φ : Dev nD → sProp 𝕄) :
    bigSep (Finset.univ.erase c) Φ = bigSep Finset.univ fun p => unlessSelf c p (Φ p) := by
  rw [← Finset.filter_ne' Finset.univ c, bigSep_filter]
  refine bigSep_congr fun p _ => ?_
  unfold unlessSelf
  by_cases h : p = c
  · rw [if_neg (fun k => k h), if_pos h]; rfl
  · rw [if_pos h, if_neg h]

theorem rest_bar (c : Dev nD) : bigSep ((Rd (F := F) m ρ).duties (barCell c) 0 \ ∅) (fun d => (Rd (F := F) m ρ).payload (barCell c) 0 d)
    = bigSep Finset.univ fun p : Dev nD => unlessSelf c p (iprop(∃ f, slotPts p c fullShare f) : sProp 𝕄) := by
  rw [Finset.sdiff_empty, duties_bar, ← erase_unless]
  exact bigSep_congr fun d _ => payload_bar m ρ c d

/-- The wait at the barrier: every peer has signalled, so the device is ready to serve each of them, and its barrier
    cell is closed. -/
theorem barrier_step (c : Dev nD) {α : Type} {k : PUnit → PR F α} {Q : α → sProp 𝕄} :
    iprop(records m ρ K ∗ levAts L lv ∗ cred (tallyAt (barCell c) () 7) ∗ atPos ER (barCell c) 0 ∅ 0 ∗ owing c (owedS c 8)
        ∗ slotPts c c fullShare (gath m ρ) ∗ bigSep Finset.univ fun p : Dev nD => before c p)
      ⊢ iprop(((semVal (barCell c) 0 ∗ owing c (owedS c 8) ∗ bigSep Finset.univ fun p : Dev nD => ready m ρ c p) -∗ run c (k ⟨⟩) Q)
        -∗ run c (semWaitWord barS 7#32 >>= k) Q) := by
  unfold owing
  simp only [semWaitWord, Prog.bind_op, Prog.bind_ret]
  iintro ⟨#HR, #HL, Hc, Ha, ⟨%W, HO⟩, Hs, Hb⟩ Hk
  iapply (Rounds.wp_wait_rest_token 𝒱₀ ER (Rd m ρ) (c : Thread nD τ) none (κ := K (c, .inl ()))
    (wpE_semWait_eq 𝒱₀ (c : Thread nD τ) none Set.univ) (Set.mem_univ _) () (O := owedS c 8) (W := W) (R := 0) (m := 0) (T := ∅)
    (by rw [expect_bar]; decide)) $$ [Hc HO Ha]
  · isplitr; · iapply (inv_at m ρ K (c, .inl ())); iexact HR
    isplitl [Hc]; · iexact Hc
    isplitl [HO]; · iexact HO
    isplitr; · iapply (mayWait_bar c 8); iexact HL
    iexact Ha
  iintro ⟨HO, Ha, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [Ha] with Hz
  · isplitr; · iapply (inv_at m ρ K (c, .inl ())); iexact HR
    iexact Ha
  iapply Hk
  isplitl [Hz]; · iexact Hz
  isplitl [HO]; · iexists _; iexact HO
  unfold ready
  rw [bigSep_sep', bigSep_sep']
  isplitl [Hb]; · iexact Hb
  isplitl [Hs]; · iapply (Entails.of_eq (slot_eighths c c (gath m ρ))) $$ Hs
  iexact Hp

theorem ret_run (c : Dev nD) {α : Type} {a : α} {Q : α → sProp 𝕄} : Q a ⊢ run c (.ret a) Q := by
  show Q a ⊢ wp _ _ _ (.ret a) Q
  rw [wp_ret]
  iintro H
  imodintro; iexact H

/-- The receive semaphore the sender names. -/
theorem recv_sem (c : Dev nD) (off : Fin 1 → Nat) (h : ∀ a, off a + S1.size a ≤ S8.size a) (ho : off = ![c.val]) :
    (((cc0_scratch6 : DmaSems sig S8).slice (Rect.unit (s := S8) off S1.size h)).squeeze S_ squeezes_S1_S_).sem = recvQ c := by
  subst ho
  have h' : ∀ (c : Dev nD) (h : ∀ a, (![c.val] : Fin 1 → Nat) a + S1.size a ≤ S8.size a),
      (((cc0_scratch6 : DmaSems sig S8).slice (Rect.unit (s := S8) ![c.val] S1.size h)).squeeze S_ squeezes_S1_S_).sem = recvQ c := by decide
  exact h' c h

end Cert.AllMax
-- ==== Proof.Parts.lean ====
/-
# The exchange, part by part

The second half of the kernel's body is printed in seven parts. For each: what the device holds before and after it.
-/
module

public import proofs.«01_k».proof.Proof.Exchange

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-- A conjunction over the eight devices, written out. -/
theorem eight (Φ : Dev nD → sProp 𝕄) :
    bigSep Finset.univ Φ = iprop(Φ 0 ∗ Φ 1 ∗ Φ 2 ∗ Φ 3 ∗ Φ 4 ∗ Φ 5 ∗ Φ 6 ∗ Φ 7) := by
  have h := bigSep_univ_eq_bigSepL (M := 𝕄) [(0 : Dev nD), 1, 2, 3, 4, 5, 6, 7] (by decide) (by decide) (Φ := Φ)
  exact h

/-- Part 1: the rows into the own slot, the barrier, the copies to peers 0 … 4. -/
theorem run_part1 (c : Dev nD) (i : grid0.Coords) (a1 : Memref sig .tc .vmem S2048x1024 .f32) (h1 : a1.IsWhole) (h2 h3 h4 h5 h6 h7) (v3 : Sems sig S_) (hv3 : v3.sem = barS) (hg : k0_cond13 i = 1#1) (f : (cc0_scratch3 : Ref sig .tc).ty.Contents (Elt F))
    {Q : BitVec 32 → sProp 𝕄} :
    iprop(records m ρ K ∗ levAts L lv ∗ holds c cc0_scratch0 (rv1 m ρ c) ∗ holds c cc0_scratch1 (ri1 m ρ c) ∗ slotPts c c fullShare f ∗ cred (tallyAt (barCell c) () 7) ∗ atPos ER (barCell c) 0 ∅ 0 ∗ (bigSep Finset.univ fun p : Dev nD => before c p) ∗ owing c (owedS c 8))
      ⊢ iprop(((holds c cc0_scratch0 (rv1 m ρ c) ∗ holds c cc0_scratch1 (ri1 m ρ c) ∗ semVal (barCell c) 0 ∗ sent m ρ c 0 ∗ sent m ρ c 1 ∗ sent m ρ c 2 ∗ sent m ρ c 3 ∗ sent m ρ c 4 ∗ ready m ρ c 5 ∗ ready m ρ c 6 ∗ ready m ρ c 7 ∗ owing c (owedS c 3)) -∗ Q (Scalar.extui (Scalar.cmpi .ne (wordOf c) 5#32)))
        -∗ run c (k0_part1 i a1 h1 oM h2 valM h3 idxM h4 id2M h5 gM h6 blkM h7 cc0_scratch5 cc0_scratch6 c (wordOf c) v3 hg) Q) := by
  rw [k0_part1_eq_skeleton]
  unfold k0_part1_skel
  iintro ⟨#HR, #HL, Hv, Hx, Hg, HC, HA, HB, HO⟩ Hk
  rw [hv3]
  iapply (load_idx c (ri1 m ρ c)) $$ Hx; iintro Hx
  iapply (load_val c (rv1 m ρ c)) $$ Hv; iintro Hv
  iapply (load_own c (k0_off1_eq c) f) $$ Hg; iintro Hg
  iapply (store_own m ρ c (k0_off1_eq c) f) $$ Hg; iintro Hg
  iapply (barrier_step m ρ K c) $$ [HC HA HO Hg HB]
  · isplitr; · iexact HR
    isplitr; · iexact HL
    isplitl [HC]; · iexact HC
    isplitl [HA]; · iexact HA
    isplitl [HO]; · iexact HO
    isplitl [Hg]; · iexact Hg
    iexact HB
  iintro ⟨Hz, HO, HR8⟩
  ihave HR8 := (Entails.of_eq (eight fun p => ready m ρ c p)) $$ HR8
  icases HR8 with ⟨R0, R1, R2, R3, R4, R5, R6, R7⟩
  iapply (send_step m ρ K c 0 7 ?hc rfl ?hX) $$ [HO R0]
  case hc => revert c; decide
  case hX => exact fun h => IsSend.mk _ _ _ _ _ _ _ _ _ _ _ (Fin.ext k0_dev9_eq) (k0_off3_eq c) (k0_off3_eq c) rfl (recv_sem c _ _ (k0_off2_eq c))
  · isplitr; · iexact HR
    isplitl [R0]; · iexact R0
    iexact HO
  iintro ⟨S0, HO⟩
  iapply (send_step m ρ K c 1 6 ?hc rfl ?hX) $$ [HO R1]
  case hc => revert c; decide
  case hX => exact fun h => IsSend.mk _ _ _ _ _ _ _ _ _ _ _ (Fin.ext k0_dev10_eq) (k0_off5_eq c) (k0_off5_eq c) rfl (recv_sem c _ _ (k0_off4_eq c))
  · isplitr; · iexact HR
    isplitl [R1]; · iexact R1
    iexact HO
  iintro ⟨S1, HO⟩
  iapply (send_step m ρ K c 2 5 ?hc rfl ?hX) $$ [HO R2]
  case hc => revert c; decide
  case hX => exact fun h => IsSend.mk _ _ _ _ _ _ _ _ _ _ _ (Fin.ext k0_dev11_eq) (k0_off7_eq c) (k0_off7_eq c) rfl (recv_sem c _ _ (k0_off6_eq c))
  · isplitr; · iexact HR
    isplitl [R2]; · iexact R2
    iexact HO
  iintro ⟨S2, HO⟩
  iapply (send_step m ρ K c 3 4 ?hc rfl ?hX) $$ [HO R3]
  case hc => revert c; decide
  case hX => exact fun h => IsSend.mk _ _ _ _ _ _ _ _ _ _ _ (Fin.ext k0_dev12_eq) (k0_off9_eq c) (k0_off9_eq c) rfl (recv_sem c _ _ (k0_off8_eq c))
  · isplitr; · iexact HR
    isplitl [R3]; · iexact R3
    iexact HO
  iintro ⟨S3, HO⟩
  iapply (send_step m ρ K c 4 3 ?hc rfl ?hX) $$ [HO R4]
  case hc => revert c; decide
  case hX => exact fun h => IsSend.mk _ _ _ _ _ _ _ _ _ _ _ (Fin.ext k0_dev13_eq) (k0_off11_eq c) (k0_off11_eq c) rfl (recv_sem c _ _ (k0_off10_eq c))
  · isplitr; · iexact HR
    isplitl [R4]; · iexact R4
    iexact HO
  iintro ⟨S4, HO⟩
  iapply (ret_run c); iapply Hk
  isplitl [Hv]; · iexact Hv
  isplitl [Hx]; · iexact Hx
  isplitl [Hz]; · iexact Hz
  isplitl [S0]; · iexact S0
  isplitl [S1]; · iexact S1
  isplitl [S2]; · iexact S2
  isplitl [S3]; · iexact S3
  isplitl [S4]; · iexact S4
  isplitl [R5]; · iexact R5
  isplitl [R6]; · iexact R6
  isplitl [R7]; · iexact R7
  iexact HO

/-- Part 2: the copies to peers 5 … 7; slot 0 starts the fold; slot 1 is read. -/
theorem run_part2 (c : Dev nD) (i : grid0.Coords) (a1 : Memref sig .tc .vmem S2048x1024 .f32) (h1 : a1.IsWhole) (h2 h3 h4 h5 h6 h7) (hg : k0_cond13 i = 1#1) (X : (cc0_scratch2 : Ref sig .tc).ty.Contents (Elt F))
    {Q : (Σ' (_ : FVec F S1024 .f32), FVec F S1024 .f32) → sProp 𝕄} :
    iprop(records m ρ K ∗ holds c cc0_scratch0 (rv1 m ρ c) ∗ holds c cc0_scratch2 X ∗ sent m ρ c 0 ∗ sent m ρ c 1 ∗ sent m ρ c 2 ∗ sent m ρ c 3 ∗ sent m ρ c 4 ∗ ready m ρ c 5 ∗ ready m ρ c 6 ∗ ready m ρ c 7 ∗ owing c (owedS c 3))
      ⊢ iprop(((holds c cc0_scratch0 (foldV m ρ 0) ∗ holds c cc0_scratch2 (foldI m ρ 0) ∗ got m ρ c 0 ∗ got m ρ c 1 ∗ sent m ρ c 2 ∗ sent m ρ c 3 ∗ sent m ρ c 4 ∗ sent m ρ c 5 ∗ sent m ρ c 6 ∗ sent m ρ c 7 ∗ owing c 0) -∗ Q ⟨k0_pay14 (slotRow m ρ 1 0), k0_pay15 (slotRow m ρ 1 1)⟩)
        -∗ run c (k0_part2 i a1 h1 oM h2 valM h3 idxM h4 id2M h5 gM h6 blkM h7 cc0_scratch5 cc0_scratch6 c (wordOf c) hg (Scalar.extui (Scalar.cmpi .ne (wordOf c) 5#32))) Q) := by
  rw [k0_part2_eq_skeleton]
  unfold k0_part2_skel
  iintro ⟨#HR, Hv, Hi, S0, S1, S2, S3, S4, R5, R6, R7, HO⟩ Hk
  iapply (send_step m ρ K c 5 2 ?hc rfl ?hX) $$ [HO R5]
  case hc => revert c; decide
  case hX => exact fun h => IsSend.mk _ _ _ _ _ _ _ _ _ _ _ (Fin.ext k0_dev14_eq) (k0_off13_eq c) (k0_off13_eq c) rfl (recv_sem c _ _ (k0_off12_eq c))
  · isplitr; · iexact HR
    isplitl [R5]; · iexact R5
    iexact HO
  iintro ⟨S5, HO⟩
  iapply (send_step m ρ K c 6 1 ?hc rfl ?hX) $$ [HO R6]
  case hc => revert c; decide
  case hX => exact fun h => IsSend.mk _ _ _ _ _ _ _ _ _ _ _ (Fin.ext k0_dev15_eq) (k0_off15_eq c) (k0_off15_eq c) rfl (recv_sem c _ _ (k0_off14_eq c))
  · isplitr; · iexact HR
    isplitl [R6]; · iexact R6
    iexact HO
  iintro ⟨S6, HO⟩
  iapply (send_step m ρ K c 7 0 ?hc rfl ?hX) $$ [HO R7]
  case hc => revert c; decide
  case hX => exact fun h => IsSend.mk _ _ _ _ _ _ _ _ _ _ _ (Fin.ext k0_dev16_eq) (k0_off17_eq c) (k0_off17_eq c) rfl (recv_sem c _ _ (k0_off16_eq c))
  · isplitr; · iexact HR
    isplitl [R7]; · iexact R7
    iexact HO
  iintro ⟨S7, HO⟩
  iapply (recv_step m ρ K c 0 ?hc ?hX) $$ [HO S0]
  case hc => revert c; decide
  case hX => exact fun h => IsWait.mk _ _ _ _ _ _ _ rfl
  · isplitr; · iexact HR
    isplitl [S0]; · iexact S0
    iexact HO
  iintro ⟨G0, HO⟩
  iapply (read_row m ρ c 0 0 rfl) $$ G0; iintro G0
  iapply (read_row m ρ c 0 1 rfl) $$ G0; iintro G0
  iapply (load_val c (rv1 m ρ c)) $$ Hv; iintro Hv
  iapply (store_val c (rv1 m ρ c) (foldV m ρ 0)) $$ Hv; iintro Hv
  iapply (load_id2 c X) $$ Hi; iintro Hi
  iapply (store_id2 c X (foldI m ρ 0)) $$ Hi; iintro Hi
  iapply (recv_step m ρ K c 1 ?hc ?hX) $$ [HO S1]
  case hc => revert c; decide
  case hX => exact fun h => IsWait.mk _ _ _ _ _ _ _ rfl
  · isplitr; · iexact HR
    isplitl [S1]; · iexact S1
    iexact HO
  iintro ⟨G1, HO⟩
  iapply (read_row m ρ c 1 0 rfl) $$ G1; iintro G1
  iapply (read_row m ρ c 1 1 rfl) $$ G1; iintro G1
  iapply (ret_run c); iapply Hk
  isplitl [Hv]; · iexact Hv
  isplitl [Hi]; · iexact Hi
  isplitl [G0]; · iexact G0
  isplitl [G1]; · iexact G1
  isplitl [S2]; · iexact S2
  isplitl [S3]; · iexact S3
  isplitl [S4]; · iexact S4
  isplitl [S5]; · iexact S5
  isplitl [S6]; · iexact S6
  isplitl [S7]; · iexact S7
  iexact HO

/-- Part 3: slot 1 is folded in; slot 2 is received, and its maxima folded in. -/
theorem run_part3 (c : Dev nD) (i : grid0.Coords) (a1 : Memref sig .tc .vmem S2048x1024 .f32) (h1 : a1.IsWhole) (h2 h3 h4 h5 h6 h7)
    {Q : FVec F S1x1024 .f32 → sProp 𝕄} :
    iprop(records m ρ K ∗ holds c cc0_scratch0 (foldV m ρ 0) ∗ holds c cc0_scratch2 (foldI m ρ 0) ∗ sent m ρ c 2 ∗ owing c 0)
      ⊢ iprop(((holds c cc0_scratch0 (foldV m ρ 2) ∗ holds c cc0_scratch2 (foldI m ρ 1) ∗ got m ρ c 2 ∗ owing c 0) -∗ Q (foldI m ρ 2))
        -∗ run c (k0_part3 i a1 h1 oM h2 valM h3 idxM h4 id2M h5 gM h6 blkM h7 cc0_scratch5 cc0_scratch6 (wordOf c) (k0_pay14 (slotRow m ρ 1 0)) (k0_pay15 (slotRow m ρ 1 1))) Q) := by
  rw [k0_part3_eq_skeleton]
  unfold k0_part3_skel
  iintro ⟨#HR, Hv, Hi, S2, HO⟩ Hk
  iapply (load_val c (foldV m ρ 0)) $$ Hv; iintro Hv
  iapply (load_val c (foldV m ρ 0)) $$ Hv; iintro Hv
  iapply (store_val c (foldV m ρ 0) (foldV m ρ 1)) $$ Hv; iintro Hv
  iapply (load_id2 c (foldI m ρ 0)) $$ Hi; iintro Hi
  iapply (load_id2 c (foldI m ρ 0)) $$ Hi; iintro Hi
  iapply (store_id2 c (foldI m ρ 0) (foldI m ρ 1)) $$ Hi; iintro Hi
  iapply (recv_step m ρ K c 2 ?hc ?hX) $$ [HO S2]
  case hc => revert c; decide
  case hX => exact fun h => IsWait.mk _ _ _ _ _ _ _ rfl
  · isplitr; · iexact HR
    isplitl [S2]; · iexact S2
    iexact HO
  iintro ⟨G2, HO⟩
  iapply (read_row m ρ c 2 0 rfl) $$ G2; iintro G2
  iapply (read_row m ρ c 2 1 rfl) $$ G2; iintro G2
  iapply (load_val c (foldV m ρ 1)) $$ Hv; iintro Hv
  iapply (load_val c (foldV m ρ 1)) $$ Hv; iintro Hv
  iapply (store_val c (foldV m ρ 1) (foldV m ρ 2)) $$ Hv; iintro Hv
  iapply (load_id2 c (foldI m ρ 1)) $$ Hi; iintro Hi
  iapply (load_id2 c (foldI m ρ 1)) $$ Hi; iintro Hi
  iapply (ret_run c (a := foldI m ρ 2)); iapply Hk
  isplitl [Hv]; · iexact Hv
  isplitl [Hi]; · iexact Hi
  isplitl [G2]; · iexact G2
  iexact HO

end Cert.AllMax
-- ==== Proof.PartsRest.lean ====
/-
# The exchange, part by part (continued)

The second half of the kernel's body is printed in seven parts. For each: what the device holds before and after it.
-/
module

public import proofs.«01_k».proof.Proof.Exchange

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-- Part 4: slot 3 is received and folded in; slot 4 is received. -/
theorem run_part4 (c : Dev nD) (i : grid0.Coords) (a1 : Memref sig .tc .vmem S2048x1024 .f32) (h1 : a1.IsWhole) (h2 h3 h4 h5 h6 h7)
    {Q : (Σ' (_ : FVec F S1024 .f32) (_ : FVec F S1024 .f32), FVec F S1024 .f32) → sProp 𝕄} :
    iprop(records m ρ K ∗ holds c cc0_scratch0 (foldV m ρ 2) ∗ holds c cc0_scratch2 (foldI m ρ 1) ∗ sent m ρ c 3 ∗ sent m ρ c 4 ∗ owing c 0)
      ⊢ iprop(((holds c cc0_scratch0 (foldV m ρ 3) ∗ holds c cc0_scratch2 (foldI m ρ 3) ∗ got m ρ c 3 ∗ got m ρ c 4 ∗ owing c 0) -∗ Q ⟨k0_pay30 (slotRow m ρ 4 0), k0_pay31 (slotRow m ρ 4 1), k0_pay32 (foldV m ρ 3)⟩)
        -∗ run c (k0_part4 i a1 h1 oM h2 valM h3 idxM h4 id2M h5 gM h6 blkM h7 cc0_scratch5 cc0_scratch6 (wordOf c) (foldI m ρ 2)) Q) := by
  rw [k0_part4_eq_skeleton]
  unfold k0_part4_skel
  iintro ⟨#HR, Hv, Hi, S3, S4, HO⟩ Hk
  iapply (store_id2 c (foldI m ρ 1) (foldI m ρ 2)) $$ Hi; iintro Hi
  iapply (recv_step m ρ K c 3 ?hc ?hX) $$ [HO S3]
  case hc => revert c; decide
  case hX => exact fun h => IsWait.mk _ _ _ _ _ _ _ rfl
  · isplitr; · iexact HR
    isplitl [S3]; · iexact S3
    iexact HO
  iintro ⟨G3, HO⟩
  iapply (read_row m ρ c 3 0 rfl) $$ G3; iintro G3
  iapply (read_row m ρ c 3 1 rfl) $$ G3; iintro G3
  iapply (load_val c (foldV m ρ 2)) $$ Hv; iintro Hv
  iapply (load_val c (foldV m ρ 2)) $$ Hv; iintro Hv
  iapply (store_val c (foldV m ρ 2) (foldV m ρ 3)) $$ Hv; iintro Hv
  iapply (load_id2 c (foldI m ρ 2)) $$ Hi; iintro Hi
  iapply (load_id2 c (foldI m ρ 2)) $$ Hi; iintro Hi
  iapply (store_id2 c (foldI m ρ 2) (foldI m ρ 3)) $$ Hi; iintro Hi
  iapply (recv_step m ρ K c 4 ?hc ?hX) $$ [HO S4]
  case hc => revert c; decide
  case hX => exact fun h => IsWait.mk _ _ _ _ _ _ _ rfl
  · isplitr; · iexact HR
    isplitl [S4]; · iexact S4
    iexact HO
  iintro ⟨G4, HO⟩
  iapply (read_row m ρ c 4 0 rfl) $$ G4; iintro G4
  iapply (read_row m ρ c 4 1 rfl) $$ G4; iintro G4
  iapply (load_val c (foldV m ρ 3)) $$ Hv; iintro Hv
  iapply (ret_run c); iapply Hk
  isplitl [Hv]; · iexact Hv
  isplitl [Hi]; · iexact Hi
  isplitl [G3]; · iexact G3
  isplitl [G4]; · iexact G4
  iexact HO

/-- Part 5: slot 4 is folded in; slot 5 is received and folded in. -/
theorem run_part5 (c : Dev nD) (i : grid0.Coords) (a1 : Memref sig .tc .vmem S2048x1024 .f32) (h1 : a1.IsWhole) (h2 h3 h4 h5 h6 h7)
    {Q : BitVec 1 → sProp 𝕄} :
    iprop(records m ρ K ∗ holds c cc0_scratch0 (foldV m ρ 3) ∗ holds c cc0_scratch2 (foldI m ρ 3) ∗ sent m ρ c 5 ∗ owing c 0)
      ⊢ iprop(((holds c cc0_scratch0 (foldV m ρ 5) ∗ holds c cc0_scratch2 (foldI m ρ 5) ∗ got m ρ c 5 ∗ owing c 0) -∗ Q (Scalar.cmpi .ne (wordOf c) 6#32))
        -∗ run c (k0_part5 i a1 h1 oM h2 valM h3 idxM h4 id2M h5 gM h6 blkM h7 cc0_scratch5 cc0_scratch6 (wordOf c) (k0_pay30 (slotRow m ρ 4 0)) (k0_pay31 (slotRow m ρ 4 1)) (k0_pay32 (foldV m ρ 3))) Q) := by
  rw [k0_part5_eq_skeleton]
  unfold k0_part5_skel
  iintro ⟨#HR, Hv, Hi, S5, HO⟩ Hk
  iapply (load_val c (foldV m ρ 3)) $$ Hv; iintro Hv
  iapply (store_val c (foldV m ρ 3) (foldV m ρ 4)) $$ Hv; iintro Hv
  iapply (load_id2 c (foldI m ρ 3)) $$ Hi; iintro Hi
  iapply (load_id2 c (foldI m ρ 3)) $$ Hi; iintro Hi
  iapply (store_id2 c (foldI m ρ 3) (foldI m ρ 4)) $$ Hi; iintro Hi
  iapply (recv_step m ρ K c 5 ?hc ?hX) $$ [HO S5]
  case hc => revert c; decide
  case hX => exact fun h => IsWait.mk _ _ _ _ _ _ _ rfl
  · isplitr; · iexact HR
    isplitl [S5]; · iexact S5
    iexact HO
  iintro ⟨G5, HO⟩
  iapply (read_row m ρ c 5 0 rfl) $$ G5; iintro G5
  iapply (read_row m ρ c 5 1 rfl) $$ G5; iintro G5
  iapply (load_val c (foldV m ρ 4)) $$ Hv; iintro Hv
  iapply (load_val c (foldV m ρ 4)) $$ Hv; iintro Hv
  iapply (store_val c (foldV m ρ 4) (foldV m ρ 5)) $$ Hv; iintro Hv
  iapply (load_id2 c (foldI m ρ 4)) $$ Hi; iintro Hi
  iapply (load_id2 c (foldI m ρ 4)) $$ Hi; iintro Hi
  iapply (store_id2 c (foldI m ρ 4) (foldI m ρ 5)) $$ Hi; iintro Hi
  iapply (ret_run c); iapply Hk
  isplitl [Hv]; · iexact Hv
  isplitl [Hi]; · iexact Hi
  isplitl [G5]; · iexact G5
  iexact HO

/-- Part 6: slot 6 is received and folded in; slot 7 is received. -/
theorem run_part6 (c : Dev nD) (i : grid0.Coords) (a1 : Memref sig .tc .vmem S2048x1024 .f32) (h1 : a1.IsWhole) (h2 h3 h4 h5 h6 h7)
    {Q : (Σ' (_ : FVec F S1024 .f32) (_ : IVec S1024 1), FVec F S1024 .f32) → sProp 𝕄} :
    iprop(records m ρ K ∗ holds c cc0_scratch0 (foldV m ρ 5) ∗ holds c cc0_scratch2 (foldI m ρ 5) ∗ sent m ρ c 6 ∗ sent m ρ c 7 ∗ owing c 0)
      ⊢ iprop(((holds c cc0_scratch0 (foldV m ρ 6) ∗ holds c cc0_scratch2 (foldI m ρ 6) ∗ got m ρ c 6 ∗ got m ρ c 7 ∗ owing c 0) -∗ Q ⟨k0_pay47 (slotRow m ρ 7 1), k0_pay49 (slotRow m ρ 7 0) (foldV m ρ 6), k0_pay50 (slotRow m ρ 7 0) (foldV m ρ 6)⟩)
        -∗ run c (k0_part6 i a1 h1 oM h2 valM h3 idxM h4 id2M h5 gM h6 blkM h7 cc0_scratch5 cc0_scratch6 (wordOf c) (Scalar.cmpi .ne (wordOf c) 6#32)) Q) := by
  rw [k0_part6_eq_skeleton]
  unfold k0_part6_skel
  iintro ⟨#HR, Hv, Hi, S6, S7, HO⟩ Hk
  iapply (recv_step m ρ K c 6 ?hc ?hX) $$ [HO S6]
  case hc => revert c; decide
  case hX => exact fun h => IsWait.mk _ _ _ _ _ _ _ rfl
  · isplitr; · iexact HR
    isplitl [S6]; · iexact S6
    iexact HO
  iintro ⟨G6, HO⟩
  iapply (read_row m ρ c 6 0 rfl) $$ G6; iintro G6
  iapply (read_row m ρ c 6 1 rfl) $$ G6; iintro G6
  iapply (load_val c (foldV m ρ 5)) $$ Hv; iintro Hv
  iapply (load_val c (foldV m ρ 5)) $$ Hv; iintro Hv
  iapply (store_val c (foldV m ρ 5) (foldV m ρ 6)) $$ Hv; iintro Hv
  iapply (load_id2 c (foldI m ρ 5)) $$ Hi; iintro Hi
  iapply (load_id2 c (foldI m ρ 5)) $$ Hi; iintro Hi
  iapply (store_id2 c (foldI m ρ 5) (foldI m ρ 6)) $$ Hi; iintro Hi
  iapply (recv_step m ρ K c 7 ?hc ?hX) $$ [HO S7]
  case hc => revert c; decide
  case hX => exact fun h => IsWait.mk _ _ _ _ _ _ _ rfl
  · isplitr; · iexact HR
    isplitl [S7]; · iexact S7
    iexact HO
  iintro ⟨G7, HO⟩
  iapply (read_row m ρ c 7 0 rfl) $$ G7; iintro G7
  iapply (read_row m ρ c 7 1 rfl) $$ G7; iintro G7
  iapply (load_val c (foldV m ρ 6)) $$ Hv; iintro Hv
  iapply (ret_run c); iapply Hk
  isplitl [Hv]; · iexact Hv
  isplitl [Hi]; · iexact Hi
  isplitl [G6]; · iexact G6
  isplitl [G7]; · iexact G7
  iexact HO

/-- Part 7: slot 7 is folded in, the result stored; the copies to peers 0 … 3 have been read. -/
theorem run_part7 (c : Dev nD) (i : grid0.Coords) (a1 : Memref sig .tc .vmem S2048x1024 .f32) (h1 : a1.IsWhole) (h2 h3 h4 h5 h6 h7) (hg : k0_cond13 i = 1#1) (Y : (cc0_stg1_0 : Ref sig .tc).ty.Contents (Elt F))
    {Q : PUnit → sProp 𝕄} :
    iprop(records m ρ K ∗ holds c cc0_scratch0 (foldV m ρ 6) ∗ holds c cc0_scratch2 (foldI m ρ 6) ∗ holds c cc0_stg1_0 Y ∗ got m ρ c 0 ∗ got m ρ c 1 ∗ got m ρ c 2 ∗ got m ρ c 3 ∗ owing c 0)
      ⊢ iprop(((holds c cc0_scratch0 (foldV m ρ 7) ∗ holds c cc0_scratch2 (foldI m ρ 7) ∗ holds c cc0_stg1_0 (result m ρ) ∗ finished m ρ c 0 ∗ finished m ρ c 1 ∗ finished m ρ c 2 ∗ finished m ρ c 3 ∗ owing c 0) -∗ Q ⟨⟩)
        -∗ run c (k0_part7 i a1 h1 oM h2 valM h3 idxM h4 id2M h5 gM h6 blkM h7 cc0_scratch5 cc0_scratch6 c (wordOf c) hg (k0_pay47 (slotRow m ρ 7 1)) (k0_pay49 (slotRow m ρ 7 0) (foldV m ρ 6)) (k0_pay50 (slotRow m ρ 7 0) (foldV m ρ 6))) Q) := by
  rw [k0_part7_eq_skeleton]
  unfold k0_part7_skel
  iintro ⟨#HR, Hv, Hi, Ho, G0, G1, G2, G3, HO⟩ Hk
  iapply (load_val c (foldV m ρ 6)) $$ Hv; iintro Hv
  iapply (store_val c (foldV m ρ 6) (foldV m ρ 7)) $$ Hv; iintro Hv
  iapply (load_id2 c (foldI m ρ 6)) $$ Hi; iintro Hi
  iapply (load_id2 c (foldI m ρ 6)) $$ Hi; iintro Hi
  iapply (store_id2 c (foldI m ρ 6) (foldI m ρ 7)) $$ Hi; iintro Hi
  iapply (load_val c (foldV m ρ 7)) $$ Hv; iintro Hv
  iapply (load_id2 c (foldI m ρ 7)) $$ Hi; iintro Hi
  iapply (load_out c Y) $$ Ho; iintro Ho
  iapply (store_out c Y (result m ρ)) $$ Ho; iintro Ho
  iapply (drain_step m ρ K c 0 ?hc ?hX) $$ [HO G0]
  case hc => revert c; decide
  case hX => exact fun h => IsWait.mk _ _ _ _ _ _ _ rfl
  · isplitr; · iexact HR
    isplitl [G0]; · iexact G0
    iexact HO
  iintro ⟨F0, HO⟩
  iapply (drain_step m ρ K c 1 ?hc ?hX) $$ [HO G1]
  case hc => revert c; decide
  case hX => exact fun h => IsWait.mk _ _ _ _ _ _ _ rfl
  · isplitr; · iexact HR
    isplitl [G1]; · iexact G1
    iexact HO
  iintro ⟨F1, HO⟩
  iapply (drain_step m ρ K c 2 ?hc ?hX) $$ [HO G2]
  case hc => revert c; decide
  case hX => exact fun h => IsWait.mk _ _ _ _ _ _ _ rfl
  · isplitr; · iexact HR
    isplitl [G2]; · iexact G2
    iexact HO
  iintro ⟨F2, HO⟩
  iapply (drain_step m ρ K c 3 ?hc ?hX) $$ [HO G3]
  case hc => revert c; decide
  case hX => exact fun h => IsWait.mk _ _ _ _ _ _ _ rfl
  · isplitr; · iexact HR
    isplitl [G3]; · iexact G3
    iexact HO
  iintro ⟨F3, HO⟩
  iapply (ret_run c); iapply Hk
  isplitl [Hv]; · iexact Hv
  isplitl [Hi]; · iexact Hi
  isplitl [Ho]; · iexact Ho
  isplitl [F0]; · iexact F0
  isplitl [F1]; · iexact F1
  isplitl [F2]; · iexact F2
  isplitl [F3]; · iexact F3
  iexact HO

end Cert.AllMax
-- ==== Proof.Body.lean ====
/-
# The kernel's body at its two grid points

At the first point a device signals its peers and folds the first half of its block. At the second it folds the other
half and runs the exchange.
-/
module

public import proofs.«01_k».proof.Proof.Parts
public import proofs.«01_k».proof.Proof.PartsRest

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (c : Dev nD) {α : Type} {Q : α → sProp 𝕄}

abbrev rX : Rect S2048x1024 := Rect.unit (s := S2048x1024) ![0, 0] S2048x1024.size inb_S2048x1024_S2048x1024_0_0

theorem load_xA (X : (cc0_stg0_0 : Ref sig .tc).ty.Contents (Elt F)) {hl : xA.view.LoadsAt rX.toLoadRect} {α : Type} {k : Vec F S2048x1024 .f32 → PR F α} {Q : α → sProp 𝕄} :
    holds c cc0_stg0_0 X ⊢ iprop((holds c cc0_stg0_0 X -∗ run c (k X) Q) -∗ run c (.op (.load xA rX.toLoadRect hl) k) Q) := by
  iintro H Hk
  iapply (wp_load 𝒱₀ (c : Thread nD τ) none Set.univ (m := xA) (Finset.subset_univ _)) $$ H
  iintro H
  rw [show xA.view.readAt (Elt F) rX.toLoadRect X = X from Memref.readAt_unit_zero (Elt F) cc0_stg0_0 hz _ X]
  iapply Hk; iexact H

theorem load_xB (X : (cc0_stg0_1 : Ref sig .tc).ty.Contents (Elt F)) {hl : xB.view.LoadsAt rX.toLoadRect} {α : Type} {k : Vec F S2048x1024 .f32 → PR F α} {Q : α → sProp 𝕄} :
    holds c cc0_stg0_1 X ⊢ iprop((holds c cc0_stg0_1 X -∗ run c (k X) Q) -∗ run c (.op (.load xB rX.toLoadRect hl) k) Q) := by
  iintro H Hk
  iapply (wp_load 𝒱₀ (c : Thread nD τ) none Set.univ (m := xB) (Finset.subset_univ _)) $$ H
  iintro H
  rw [show xB.view.readAt (Elt F) rX.toLoadRect X = X from Memref.readAt_unit_zero (Elt F) cc0_stg0_1 hz _ X]
  iapply Hk; iexact H

/-- The blocker buffer, whatever is in it, is loaded -/
theorem load_blk {r : LoadRect S69632x128} {hl : blkM.view.LoadsAt r} {α : Type} {k : (r.shape.Idx → Elt F .f32) → PR F α} {Q : α → sProp 𝕄} :
    iprop(∃ f, holds c cc0_scratch4 f) ⊢ iprop((∀ x, (∃ f, holds (F := F) c cc0_scratch4 f) -∗ run c (k x) Q) -∗ run c (.op (.load blkM r hl) k) Q) := by
  iintro ⟨%f, H⟩ Hk
  iapply (wp_load 𝒱₀ (c : Thread nD τ) none Set.univ (m := blkM) (Finset.subset_univ _)) $$ H
  iintro H
  iapply Hk; iexists f; iexact H

/-- and stored to. -/
theorem store_blk {r : Rect S69632x128} {w : r.shape.Idx → Elt F .f32} {hx : (blkM.access r).Stores Finset.univ} {hm} {α : Type} {k : PUnit → PR F α} {Q : α → sProp 𝕄} :
    iprop(∃ f, holds c cc0_scratch4 f) ⊢ iprop(((∃ f, holds (F := F) c cc0_scratch4 f) -∗ run c (k ⟨⟩) Q) -∗ run c (.op (.store blkM r w Finset.univ hx hm) k) Q) := by
  iintro ⟨%f, H⟩ Hk
  iapply (wp_store 𝒱₀ (c : Thread nD τ) none Set.univ (m := blkM) (r := r) (Mk := Finset.univ) (Finset.subset_univ _)) $$ H
  iintro H
  iapply Hk; iexists _; iexact H

theorem take_step {α : Type} {cond : BitVec 1} {X : cond = 1#1 → PR F α} {Y : ¬ cond = 1#1 → PR F α} {Q : α → sProp 𝕄} (h : cond = 1#1) :
    run c (X h) Q ⊢ run c (dite (cond = 1#1) X Y) Q := by rw [dif_pos h]
theorem skip_step {α : Type} {cond : BitVec 1} {X : cond = 1#1 → PR F α} {Y : ¬ cond = 1#1 → PR F α} {Q : α → sProp 𝕄} (h : ¬ cond = 1#1) :
    run c (Y h) Q ⊢ run c (dite (cond = 1#1) X Y) Q := by rw [dif_neg h]

theorem bind_step {α β : Type} {p : PR F β} {k : β → PR F α} {Q : α → sProp 𝕄} :
    run c p (fun a => run c (k a) Q) ⊢ run c (p >>= k) Q := Entails.of_eq (wp_bind _ _ _ p k Q).symm

theorem device_step {α : Type} {k : Dev nD → PR F α} {Q : α → sProp 𝕄} :
    run c (k c) Q ⊢ run c (Prog.lift .deviceId >>= k) Q :=
  Entails.of_eq (wp_deviceId (defs := defs₀ (F := F)) 𝒱₀ (c : Thread nD τ) none Set.univ (k := k) (Q := Q)).symm
end

variable (m : (ℓ : Loc nD τ sig) → Buf (Elt F) ℓ) (ρ : Dev nD → PrngReg) (K : Dev nD × Cell → ℕ)

/-- The first grid point. -/
theorem first_point (c : Dev nD) (h1 h2 h3 h4 h5 h6 h7) (v x) {Q : PUnit → sProp 𝕄} :
    iprop(records m ρ K ∗ (bigSep Finset.univ fun p : Dev nD => toSignal (F := F) c p) ∗ owing c (owedB c 8)
        ∗ holds c cc0_stg0_0 (xblk m ρ c t0_0) ∗ holds c cc0_scratch0 v ∗ holds c cc0_scratch1 x ∗ ∃ f, holds c cc0_scratch4 f)
      ⊢ iprop(((holds c cc0_stg0_0 (xblk m ρ c t0_0) ∗ holds c cc0_scratch0 (rv0 m ρ c) ∗ holds c cc0_scratch1 (ri0 m ρ c) ∗ (∃ f, holds c cc0_scratch4 f) ∗ owing c (owedB c 0)) -∗ Q ⟨⟩)
        -∗ run c (cc0_body (grid0.coords t0_0) xA h1 oM h2 valM h3 idxM h4 id2M h5 gM h6 blkM h7 cc0_scratch5 cc0_scratch6) Q) := by
  rw [cc0_body_eq_skeleton]
  unfold cc0_body_skel
  rw [eight]
  iintro ⟨#HR, ⟨T0, T1, T2, T3, T4, T5, T6, T7⟩, HO, Hs, Hv, Hx, Hb⟩ Hk
  iapply (device_step c)
  iapply (load_blk c) $$ Hb; iintro %z Hb
  iapply (store_blk c) $$ Hb; iintro Hb
  iapply (signal_step m ρ K c 0 7 ?hc rfl ?hX) $$ [HO T0]
  case hc => revert c; decide
  case hX => exact fun h => IsSignal.mk _ (Fin.ext k0_dev1_eq)
  · isplitr; · iexact HR
    isplitl [T0]; · iexact T0
    iexact HO
  iintro HO
  iapply (signal_step m ρ K c 1 6 ?hc rfl ?hX) $$ [HO T1]
  case hc => revert c; decide
  case hX => exact fun h => IsSignal.mk _ (Fin.ext k0_dev2_eq)
  · isplitr; · iexact HR
    isplitl [T1]; · iexact T1
    iexact HO
  iintro HO
  iapply (signal_step m ρ K c 2 5 ?hc rfl ?hX) $$ [HO T2]
  case hc => revert c; decide
  case hX => exact fun h => IsSignal.mk _ (Fin.ext k0_dev3_eq)
  · isplitr; · iexact HR
    isplitl [T2]; · iexact T2
    iexact HO
  iintro HO
  iapply (signal_step m ρ K c 3 4 ?hc rfl ?hX) $$ [HO T3]
  case hc => revert c; decide
  case hX => exact fun h => IsSignal.mk _ (Fin.ext k0_dev4_eq)
  · isplitr; · iexact HR
    isplitl [T3]; · iexact T3
    iexact HO
  iintro HO
  iapply (signal_step m ρ K c 4 3 ?hc rfl ?hX) $$ [HO T4]
  case hc => revert c; decide
  case hX => exact fun h => IsSignal.mk _ (Fin.ext k0_dev5_eq)
  · isplitr; · iexact HR
    isplitl [T4]; · iexact T4
    iexact HO
  iintro HO
  iapply (signal_step m ρ K c 5 2 ?hc rfl ?hX) $$ [HO T5]
  case hc => revert c; decide
  case hX => exact fun h => IsSignal.mk _ (Fin.ext k0_dev6_eq)
  · isplitr; · iexact HR
    isplitl [T5]; · iexact T5
    iexact HO
  iintro HO
  iapply (signal_step m ρ K c 6 1 ?hc rfl ?hX) $$ [HO T6]
  case hc => revert c; decide
  case hX => exact fun h => IsSignal.mk _ (Fin.ext k0_dev7_eq)
  · isplitr; · iexact HR
    isplitl [T6]; · iexact T6
    iexact HO
  iintro HO
  iapply (signal_step m ρ K c 7 0 ?hc rfl ?hX) $$ [HO T7]
  case hc => revert c; decide
  case hX => exact fun h => IsSignal.mk _ (Fin.ext k0_dev8_eq)
  · isplitr; · iexact HR
    isplitl [T7]; · iexact T7
    iexact HO
  iintro HO
  iapply (load_xA c (xblk m ρ c t0_0)) $$ Hs; iintro Hs
  iapply (load_val c v) $$ Hv; iintro Hv
  iapply (store_val c v (rv0 m ρ c)) $$ Hv; iintro Hv
  iapply (load_idx c x) $$ Hx; iintro Hx
  iapply (store_idx c x (ri0 m ρ c)) $$ Hx; iintro Hx
  iapply (ret_run c); iapply Hk
  isplitl [Hs]; · iexact Hs
  isplitl [Hv]; · iexact Hv
  isplitl [Hx]; · iexact Hx
  isplitl [Hb]; · iexact Hb
  iexact HO

set_option maxHeartbeats 1000000 in
/-- The second grid point. -/
theorem second_point (c : Dev nD) (h1 h2 h3 h4 h5 h6 h7) (g w y) {Q : PUnit → sProp 𝕄} :
    iprop(records m ρ K ∗ levAts L lv ∗ holds c cc0_stg0_1 (xblk m ρ c t0_1) ∗ holds c cc0_scratch0 (rv0 m ρ c) ∗ holds c cc0_scratch1 (ri0 m ρ c)
        ∗ holds c cc0_scratch2 w ∗ slotPts c c fullShare g ∗ holds c cc0_stg1_0 y
        ∗ cred (tallyAt (barCell c) () 7) ∗ atPos ER (barCell c) 0 ∅ 0 ∗ (bigSep Finset.univ fun p : Dev nD => before (F := F) c p) ∗ owing c (owedS c 8))
      ⊢ iprop(((holds c cc0_stg0_1 (xblk m ρ c t0_1) ∗ holds c cc0_scratch0 (foldV m ρ 7) ∗ holds c cc0_scratch1 (ri1 m ρ c) ∗ holds c cc0_scratch2 (foldI m ρ 7)
          ∗ holds c cc0_stg1_0 (result m ρ) ∗ semVal (barCell c) 0 ∗ (bigSep Finset.univ fun p : Dev nD => finished m ρ c p) ∗ owing c 0) -∗ Q ⟨⟩)
        -∗ run c (cc0_body (grid0.coords t0_1) xB h1 oM h2 valM h3 idxM h4 id2M h5 gM h6 blkM h7 cc0_scratch5 cc0_scratch6) Q) := by
  rw [cc0_body_eq_skeleton]
  unfold cc0_body_skel
  have hg : k0_cond13 (grid0.coords t0_1) = 1#1 := by decide
  iintro ⟨#HR, #HL, Hs, Hv, Hx, Hi, Hg, Ho, HC, HA, HB, HO⟩ Hk
  iapply (device_step c)
  iapply (load_xB c (xblk m ρ c t0_1)) $$ Hs; iintro Hs
  iapply (load_val c (rv0 m ρ c)) $$ Hv; iintro Hv
  iapply (load_val c (rv0 m ρ c)) $$ Hv; iintro Hv
  iapply (store_val c (rv0 m ρ c) (rv1 m ρ c)) $$ Hv; iintro Hv
  iapply (load_idx c (ri0 m ρ c)) $$ Hx; iintro Hx
  iapply (load_idx c (ri0 m ρ c)) $$ Hx; iintro Hx
  iapply (store_idx c (ri0 m ρ c) (ri1 m ρ c)) $$ Hx; iintro Hx
  iapply (bind_step c (p := k0_part1 (grid0.coords t0_1) xB h1 oM h2 valM h3 idxM h4 id2M h5 gM h6 blkM h7 cc0_scratch5 cc0_scratch6 c (wordOf c) (SemArray.scalar (sig.barrier 0 rfl)) hg))
  iapply (run_part1 m ρ K c _ _ _ _ _ _ _ _ _ _ rfl _ g) $$ [Hv Hx Hg HC HA HB HO]
  · isplitr; · iexact HR
    isplitr; · iexact HL
    isplitl [Hv]; · iexact Hv
    isplitl [Hx]; · iexact Hx
    isplitl [Hg]; · iexact Hg
    isplitl [HC]; · iexact HC
    isplitl [HA]; · iexact HA
    isplitl [HB]; · iexact HB
    iexact HO
  iintro ⟨Hv, Hx, Hz, S0, S1, S2, S3, S4, R5, R6, R7, HO⟩
  iapply (bind_step c (p := k0_part2 (grid0.coords t0_1) xB h1 oM h2 valM h3 idxM h4 id2M h5 gM h6 blkM h7 cc0_scratch5 cc0_scratch6 c (wordOf c) hg (Scalar.extui (Scalar.cmpi .ne (wordOf c) 5#32))))
  iapply (run_part2 m ρ K c _ _ _ _ _ _ _ _ _ _ w) $$ [Hv Hi S0 S1 S2 S3 S4 R5 R6 R7 HO]
  · isplitr; · iexact HR
    isplitl [Hv]; · iexact Hv
    isplitl [Hi]; · iexact Hi
    isplitl [S0]; · iexact S0
    isplitl [S1]; · iexact S1
    isplitl [S2]; · iexact S2
    isplitl [S3]; · iexact S3
    isplitl [S4]; · iexact S4
    isplitl [R5]; · iexact R5
    isplitl [R6]; · iexact R6
    isplitl [R7]; · iexact R7
    iexact HO
  iintro ⟨Hv, Hi, G0, G1, S2, S3, S4, S5, S6, S7, HO⟩
  iapply (bind_step c (p := k0_part3 (grid0.coords t0_1) xB h1 oM h2 valM h3 idxM h4 id2M h5 gM h6 blkM h7 cc0_scratch5 cc0_scratch6 (wordOf c) (k0_pay14 (slotRow m ρ 1 0)) (k0_pay15 (slotRow m ρ 1 1))))
  iapply (run_part3 m ρ K c _ _ _ _ _ _ _ _ _) $$ [Hv Hi S2 HO]
  · isplitr; · iexact HR
    isplitl [Hv]; · iexact Hv
    isplitl [Hi]; · iexact Hi
    isplitl [S2]; · iexact S2
    iexact HO
  iintro ⟨Hv, Hi, G2, HO⟩
  iapply (bind_step c (p := k0_part4 (grid0.coords t0_1) xB h1 oM h2 valM h3 idxM h4 id2M h5 gM h6 blkM h7 cc0_scratch5 cc0_scratch6 (wordOf c) (foldI m ρ 2)))
  iapply (run_part4 m ρ K c _ _ _ _ _ _ _ _ _) $$ [Hv Hi S3 S4 HO]
  · isplitr; · iexact HR
    isplitl [Hv]; · iexact Hv
    isplitl [Hi]; · iexact Hi
    isplitl [S3]; · iexact S3
    isplitl [S4]; · iexact S4
    iexact HO
  iintro ⟨Hv, Hi, G3, G4, HO⟩
  iapply (bind_step c (p := k0_part5 (grid0.coords t0_1) xB h1 oM h2 valM h3 idxM h4 id2M h5 gM h6 blkM h7 cc0_scratch5 cc0_scratch6 (wordOf c) (k0_pay30 (slotRow m ρ 4 0)) (k0_pay31 (slotRow m ρ 4 1)) (k0_pay32 (foldV m ρ 3))))
  iapply (run_part5 m ρ K c _ _ _ _ _ _ _ _ _) $$ [Hv Hi S5 HO]
  · isplitr; · iexact HR
    isplitl [Hv]; · iexact Hv
    isplitl [Hi]; · iexact Hi
    isplitl [S5]; · iexact S5
    iexact HO
  iintro ⟨Hv, Hi, G5, HO⟩
  iapply (bind_step c (p := k0_part6 (grid0.coords t0_1) xB h1 oM h2 valM h3 idxM h4 id2M h5 gM h6 blkM h7 cc0_scratch5 cc0_scratch6 (wordOf c) (Scalar.cmpi .ne (wordOf c) 6#32)))
  iapply (run_part6 m ρ K c _ _ _ _ _ _ _ _ _) $$ [Hv Hi S6 S7 HO]
  · isplitr; · iexact HR
    isplitl [Hv]; · iexact Hv
    isplitl [Hi]; · iexact Hi
    isplitl [S6]; · iexact S6
    isplitl [S7]; · iexact S7
    iexact HO
  iintro ⟨Hv, Hi, G6, G7, HO⟩
  iapply (bind_step c (p := k0_part7 (grid0.coords t0_1) xB h1 oM h2 valM h3 idxM h4 id2M h5 gM h6 blkM h7 cc0_scratch5 cc0_scratch6 c (wordOf c) hg (k0_pay47 (slotRow m ρ 7 1)) (k0_pay49 (slotRow m ρ 7 0) (foldV m ρ 6)) (k0_pay50 (slotRow m ρ 7 0) (foldV m ρ 6))))
  iapply (run_part7 m ρ K c _ _ _ _ _ _ _ _ _ _ y) $$ [Hv Hi Ho G0 G1 G2 G3 HO]
  · isplitr; · iexact HR
    isplitl [Hv]; · iexact Hv
    isplitl [Hi]; · iexact Hi
    isplitl [Ho]; · iexact Ho
    isplitl [G0]; · iexact G0
    isplitl [G1]; · iexact G1
    isplitl [G2]; · iexact G2
    isplitl [G3]; · iexact G3
    iexact HO
  iintro ⟨Hv, Hi, Ho, F0, F1, F2, F3, HO⟩
  iapply (drain_step m ρ K c 4 ?hc ?hX) $$ [HO G4]
  case hc => revert c; decide
  case hX => exact fun h => IsWait.mk _ _ _ _ _ _ _ rfl
  · isplitr; · iexact HR
    isplitl [G4]; · iexact G4
    iexact HO
  iintro ⟨F4, HO⟩
  iapply (drain_step m ρ K c 5 ?hc ?hX) $$ [HO G5]
  case hc => revert c; decide
  case hX => exact fun h => IsWait.mk _ _ _ _ _ _ _ rfl
  · isplitr; · iexact HR
    isplitl [G5]; · iexact G5
    iexact HO
  iintro ⟨F5, HO⟩
  iapply (drain_step m ρ K c 6 ?hc ?hX) $$ [HO G6]
  case hc => revert c; decide
  case hX => exact fun h => IsWait.mk _ _ _ _ _ _ _ rfl
  · isplitr; · iexact HR
    isplitl [G6]; · iexact G6
    iexact HO
  iintro ⟨F6, HO⟩
  iapply (drain_step m ρ K c 7 ?hc ?hX) $$ [HO G7]
  case hc => revert c; decide
  case hX => exact fun h => IsWait.mk _ _ _ _ _ _ _ rfl
  · isplitr; · iexact HR
    isplitl [G7]; · iexact G7
    iexact HO
  iintro ⟨F7, HO⟩
  ihave HF := (Entails.of_eq (eight fun p => finished m ρ c p).symm) $$ [F0 F1 F2 F3 F4 F5 F6 F7]
  · isplitl [F0]; · iexact F0
    isplitl [F1]; · iexact F1
    isplitl [F2]; · iexact F2
    isplitl [F3]; · iexact F3
    isplitl [F4]; · iexact F4
    isplitl [F5]; · iexact F5
    isplitl [F6]; · iexact F6
    iexact F7
  iapply (ret_run c); iapply Hk
  isplitl [Hs]; · iexact Hs
  isplitl [Hv]; · iexact Hv
  isplitl [Hx]; · iexact Hx
  isplitl [Hi]; · iexact Hi
  isplitl [Ho]; · iexact Ho
  isplitl [Hz]; · iexact Hz
  isplitl [HF]; · iexact HF
  iexact HO

end Cert.AllMax
-- ==== Proof.Region.lean ====
/-
# What a device holds between the grid points

Before the first point, between the two, and after the second; and that the body takes each to the next.
-/
module

public import proofs.«01_k».proof.Proof.Body

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The gather buffer, slot by slot -/

theorem slots_own (c : Dev nD) (q : PosShare TreeShare) (f : (cc0_scratch3 : Ref sig .tc).ty.Contents (Elt F)) :
    (((c : Thread nD τ).loc cc0_scratch3) ↦{q} f : sProp 𝕄) = iprop(slotPts c c q f ∗ bigSep Finset.univ fun p : Dev nD => unlessSelf c p (slotPts c p q f)) := by
  rw [slots_split, ← erase_unless]
  exact bigSep_univ_at _ c

theorem unless_sep (c p : Dev nD) (X Y : sProp 𝕄) : unlessSelf c p iprop(X ∗ Y) = iprop(unlessSelf c p X ∗ unlessSelf c p Y) := by
  by_cases h : p = c
  · subst h; rw [unlessSelf_self, unlessSelf_self, unlessSelf_self]; exact (equiv_iff.mp emp_sep).symm
  · rw [unlessSelf_ne h, unlessSelf_ne h, unlessSelf_ne h]

theorem unless_mono (c p : Dev nD) {X Y : sProp 𝕄} (h : X ⊢ Y) : unlessSelf c p X ⊢ unlessSelf c p Y := by
  unfold unlessSelf
  by_cases hp : p = c
  · rw [if_pos hp, if_pos hp]
  · rw [if_neg hp, if_neg hp]; exact h

/-- The barrier duties a device pays. -/
def barToks (c : Dev nD) : sProp 𝕄 := bigSep Finset.univ fun p : Dev nD => unlessSelf c p (dutyTok ER (barCell p) 0 c)

/-- With its gather buffer, a device has what its barrier units hand over, and its own slot left. -/
theorem toSignal_intro (c : Dev nD) :
    iprop(barToks (F := F) c ∗ ∃ f, holds c cc0_scratch3 f)
      ⊢ iprop((bigSep Finset.univ fun p : Dev nD => toSignal (F := F) c p) ∗ ∃ f, slotPts (F := F) c c fullShare f) := by
  unfold barToks
  iintro ⟨HT, %f, H⟩
  ihave H := (Entails.of_eq (slots_own c fullShare f)) $$ H
  icases H with ⟨Ho, Hp⟩
  isplitr [Ho]
  · iapply ((Entails.of_eq (bigSep_sep' Finset.univ (fun p : Dev nD => unlessSelf c p (dutyTok ER (barCell p) 0 c)) (fun p : Dev nD => unlessSelf c p (slotPts (F := F) c p fullShare f))).symm).trans
      (bigSep_mono fun p _ => (Entails.of_eq (unless_sep c p _ _).symm).trans (show _ ⊢ toSignal (F := F) c p from unless_mono c p (by
        iintro ⟨Ht, H⟩
        isplitl [Ht]; · iexact Ht
        iexists f; iexact H))))
    isplitl [HT] <;> iassumption
  · iexists f; iexact Ho

/-- The finished peers give back the gather buffer and the semaphores. -/
theorem finished_elim (c : Dev nD) :
    (bigSep Finset.univ fun p : Dev nD => finished m ρ c p)
      ⊢ iprop((∃ f, holds c cc0_scratch3 f) ∗ (bigSep Finset.univ fun p : Dev nD => semVal (sendCell c p) 0) ∗ bigSep Finset.univ fun p : Dev nD => semVal (recvCell c p) 0) := by
  unfold finished
  rw [bigSep_sep', bigSep_sep', bigSep_sep']
  iintro ⟨H1, H2, H3, H4⟩
  isplitr [H3 H4]
  · iexists (gath m ρ)
    iapply (Entails.of_eq (slots_own c fullShare (gath m ρ)).symm)
    isplitl [H1]
    · iapply (Entails.of_eq (slot_eighths c c (gath m ρ)).symm) $$ H1
    · iexact H2
  isplitl [H3] <;> iassumption

/-! ## The states -/

/-- What a device starts from. -/
def start (c : Dev nD) : sProp 𝕄 :=
  iprop((∃ K, records m ρ K) ∗ levAts L lv ∗ barToks (F := F) c ∗ cred (tallyAt (barCell c) () 7) ∗ atPos ER (barCell c) 0 ∅ 0
    ∗ bigSep Finset.univ fun p : Dev nD => before (F := F) c p)

def some' (c : Dev nD) (b : Ref sig .tc) : sProp 𝕄 := iprop(∃ f, holds (F := F) c b f)

def atStart (c : Dev nD) : sProp 𝕄 :=
  iprop(start m ρ c ∗ some' (F := F) c cc0_scratch0 ∗ some' (F := F) c cc0_scratch1 ∗ some' (F := F) c cc0_scratch2 ∗ some' (F := F) c cc0_scratch3 ∗ some' (F := F) c cc0_scratch4)

def between (c : Dev nD) : sProp 𝕄 :=
  iprop((∃ K, records m ρ K) ∗ levAts L lv ∗ cred (tallyAt (barCell c) () 7) ∗ atPos ER (barCell c) 0 ∅ 0
    ∗ (bigSep Finset.univ fun p : Dev nD => before (F := F) c p)
    ∗ holds c cc0_scratch0 (rv0 m ρ c) ∗ holds c cc0_scratch1 (ri0 m ρ c) ∗ some' (F := F) c cc0_scratch2 ∗ (∃ f, slotPts (F := F) c c fullShare f) ∗ some' (F := F) c cc0_scratch4)

def atEnd (c : Dev nD) : sProp 𝕄 :=
  iprop((some' (F := F) c cc0_scratch0 ∗ some' (F := F) c cc0_scratch1 ∗ some' (F := F) c cc0_scratch2 ∗ some' (F := F) c cc0_scratch3 ∗ some' (F := F) c cc0_scratch4)
    ∗ semVal (barCell c) 0 ∗ (bigSep Finset.univ fun p : Dev nD => semVal (sendCell c p) 0) ∗ bigSep Finset.univ fun p : Dev nD => semVal (recvCell c p) 0)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m ρ c t
    | ⟨1, _⟩ => result m ρ
  Φ t := match t with
    | ⟨0, _⟩ => atStart m ρ c
    | ⟨1, _⟩ => between m ρ c
    | ⟨_ + 2, _⟩ => atEnd (F := F) c
  q _ := fullShare
  owed t := match t with
    | ⟨0, _⟩ => O₀ c
    | ⟨1, _⟩ => owedS c 8
    | ⟨_ + 2, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f, ⌜f = X⌝ ∗ holds c b f) := by
  unfold owns; simp only [Memref.view_whole, View.read_whole, View.set_whole]

/-! ## The body obligation -/

abbrev stg (c : Dev nD) (b : Ref sig .tc) (X : b.ty.Contents (Elt F)) : sProp 𝕄 := iprop(∃ f, ⌜f = X⌝ ∗ holds c b f)

theorem owes_open (c : Dev nD) (t : Fin (cfg0.N + 1)) : (dats m ρ 0 c).owesAt () t ⊢ owing c ((dats m ρ 0 c).owed t) := by
  unfold Dat.owesAt Pipeline.owesWithin owing
  iintro ⟨%W, %hW, H⟩
  iexists W; iexact H
theorem owes_close (c : Dev nD) (t : Fin (cfg0.N + 1)) : owing c ((dats m ρ 0 c).owed t) ⊢ (dats m ρ 0 c).owesAt () t := by
  unfold Dat.owesAt Pipeline.owesWithin owing
  iintro ⟨%W, H⟩
  iexists W
  isplitr; · ipureintro; exact fun _ _ => Or.inl trivial
  iexact H

theorem point0 (c : Dev nD) :
    iprop(atStart m ρ c ∗ (dats m ρ 0 c).owesAt () t0_0.castSucc
        ∗ (∃ d, stg c cc0_stg0_0 ((dats m ρ 0 c).before (0 : Fin 2) t0_0 d)) ∗ (∃ d, stg c cc0_stg1_0 ((dats m ρ 0 c).before (1 : Fin 2) t0_0 d)))
      ⊢ run c (bodyAt0 t0_0) fun _ => iprop(between m ρ c ∗ (dats m ρ 0 c).owesAt () t0_0.succ
        ∗ stg c cc0_stg0_0 (xblk m ρ c t0_0) ∗ (∃ d, stg c cc0_stg1_0 ((dats m ρ 0 c).before (1 : Fin 2) t0_0 d))) := by
  unfold atStart start
  iintro ⟨⟨⟨⟨%K, #HR⟩, #HL, HT, HC, HA, HB⟩, Hv, Hx, Hi, Hg, Hb⟩, HO, ⟨%d, %X, %hX, Hs⟩, Ho⟩
  have hX' : X = xblk m ρ c t0_0 := by rw [hX]; unfold Dat.before; rw [if_pos (fetch0_0 t0_0)]; rfl
  subst hX'
  ihave HO := (owes_open m ρ c t0_0.castSucc) $$ HO
  ihave HG := (toSignal_intro (F := F) c) $$ [HT Hg]
  · isplitl [HT]; · iexact HT
    unfold some'; iexact Hg
  icases HG with ⟨HT, Hg⟩
  unfold some'
  icases Hv with ⟨%v, Hv⟩
  icases Hx with ⟨%x, Hx⟩
  iapply (first_point m ρ K c _ _ _ _ _ _ _ v x) $$ [HT HO Hs Hv Hx Hb]
  · isplitr; · iexact HR
    isplitl [HT]; · iexact HT
    isplitl [HO]; · iexact HO
    isplitl [Hs]; · iexact Hs
    isplitl [Hv]; · iexact Hv
    isplitl [Hx]; · iexact Hx
    iexact Hb
  iintro ⟨Hs, Hv, Hx, Hb, HO⟩
  unfold between some'
  isplitr [HO Hs Ho]
  · isplitr; · iexists K; iexact HR
    isplitr; · iexact HL
    isplitl [HC]; · iexact HC
    isplitl [HA]; · iexact HA
    isplitl [HB]; · iexact HB
    isplitl [Hv]; · iexact Hv
    isplitl [Hx]; · iexact Hx
    isplitl [Hi]; · iexact Hi
    isplitl [Hg]; · iexact Hg
    iexact Hb
  isplitl [HO]; · iapply (owes_close m ρ c t0_0.succ); iexact HO
  isplitl [Hs]
  · iexists _; isplitr; · ipureintro; rfl
    iexact Hs
  iexact Ho

theorem point1 (c : Dev nD) :
    iprop(between m ρ c ∗ (dats m ρ 0 c).owesAt () t0_1.castSucc
        ∗ (∃ d, stg c cc0_stg0_1 ((dats m ρ 0 c).before (0 : Fin 2) t0_1 d)) ∗ (∃ d, stg c cc0_stg1_0 ((dats m ρ 0 c).before (1 : Fin 2) t0_1 d)))
      ⊢ run c (bodyAt0 t0_1) fun _ => iprop(atEnd (F := F) c ∗ (dats m ρ 0 c).owesAt () t0_1.succ
        ∗ stg c cc0_stg0_1 (xblk m ρ c t0_1) ∗ stg c cc0_stg1_0 (result m ρ)) := by
  unfold between
  iintro ⟨⟨⟨%K, #HR⟩, #HL, HC, HA, HB, Hv, Hx, Hi, ⟨%g, Hg⟩, Hb⟩, HO, ⟨%d, %X, %hX, Hs⟩, ⟨%e, %Y, %hY, Ho⟩⟩
  have hX' : X = xblk m ρ c t0_1 := by rw [hX]; unfold Dat.before; rw [if_pos (fetch0_0 t0_1)]; rfl
  subst hX'
  ihave HO := (owes_open m ρ c t0_1.castSucc) $$ HO
  unfold some'
  icases Hi with ⟨%w, Hi⟩
  iapply (second_point m ρ K c _ _ _ _ _ _ _ g w Y) $$ [HC HA HB HO Hs Hv Hx Hi Hg Ho]
  · isplitr; · iexact HR
    isplitr; · iexact HL
    isplitl [Hs]; · iexact Hs
    isplitl [Hv]; · iexact Hv
    isplitl [Hx]; · iexact Hx
    isplitl [Hi]; · iexact Hi
    isplitl [Hg]; · iexact Hg
    isplitl [Ho]; · iexact Ho
    isplitl [HC]; · iexact HC
    isplitl [HA]; · iexact HA
    isplitl [HB]; · iexact HB
    iexact HO
  iintro ⟨Hs, Hv, Hx, Hi, Ho, Hz, HF, HO⟩
  ihave HF := (finished_elim m ρ c) $$ HF
  icases HF with ⟨Hg, HS, HV⟩
  unfold atEnd some'
  isplitr [HO Hs Ho]
  · isplitr [Hz HS HV]
    · isplitl [Hv]; · iexists _; iexact Hv
      isplitl [Hx]; · iexists _; iexact Hx
      isplitl [Hi]; · iexists _; iexact Hi
      isplitl [Hg]; · iexact Hg
      iexact Hb
    isplitl [Hz]; · iexact Hz
    isplitl [HS] <;> iassumption
  isplitl [HO]; · iapply (owes_close m ρ c t0_1.succ); iexact HO
  isplitl [Hs]
  · iexists _; isplitr; · ipureintro; rfl
    iexact Hs
  iexists _; isplitr; · ipureintro; rfl
  iexact Ho

theorem body_obligation (c : Dev nD) : BodyObligation (dats (F := F) m ρ 0 c) (defs₀ (F := F)) 𝒱₀ () Set.univ := fun t => by
  rcases fin_N0 t with h | h
  · rw [show t = t0_0 from h]
    rw [bigSep_W0, bigSep_W0]
    have H := point0 m ρ c
    simp only [← owns_whole_eq] at H
    exact H
  · rw [show t = t0_1 from h]
    rw [bigSep_W0, bigSep_W0]
    have H := point1 m ρ c
    simp only [← owns_whole_eq] at H
    exact H

end Cert.AllMax
-- ==== Proof.Launch.lean ====
/-
# The launch

The semaphores' records are allocated and the duty tokens dealt to the devices that pay them; then every device runs.
Every weakly fair execution ends, and the final memory is given window by window.
-/
module

public import Idealize.ShloMosaic.Lib.Pipeline.CollectiveSegs
public import proofs.«01_k».proof.Proof.Region

@[expose] public section

set_option maxRecDepth 16384

noncomputable section

namespace Cert.AllMax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: a send and a receive semaphore for every peer. -/
abbrev osem : Dev nD ⊕ Dev nD → SemLoc sig := fun k => semOf (.inr k)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Cell → GSem nD τ sig) := by
  rintro ⟨c, k⟩ ⟨c', k'⟩ h
  have h1 : c = c' := congrArg (fun g : GSem nD τ sig => g.1.1) h
  have h2 : semOf k = semOf k' := congrArg Prod.snd h
  rw [h1, semOf_injective h2]
def allCells : Finset (GSem nD τ sig) := Finset.univ.map ⟨kcell, kcell_injective⟩

/-! ## The duty tokens -/

/-- Which duty of which cell: of a device `c` and a peer `p`, the unit `p` pays to `c`'s barrier, `c`'s copy to `p` at
    `c`'s send cell, `p`'s copy to `c` at `c`'s receive cell. -/
abbrev tokOf (x : Dev nD × Dev nD × Fin 3) : GSem nD τ sig × ℕ × Dev nD := match x.2.2 with
  | 0 => (barCell x.1, 0, x.2.1) | 1 => (sendCell x.1 x.2.1, 0, x.1) | 2 => (recvCell x.1 x.2.1, 0, x.2.1)

/-- The peer and the kind of a token, read back. -/
def tokBack (y : GSem nD τ sig × ℕ × Dev nD) : Option (Dev nD × Fin 3) := match kind y.1.2 with
  | none => none
  | some (.inl _) => some (y.2.2, 0)
  | some (.inr (.inl p)) => some (p, 1)
  | some (.inr (.inr p)) => some (p, 2)

theorem tokBack_tokOf (x : Dev nD × Dev nD × Fin 3) : tokBack (tokOf x) = some x.2 := by
  rcases x with ⟨c, p, k⟩
  unfold tokBack
  fin_cases k
  · rfl
  · show (match kind (.dma (sendQ p)) with | none => none | some (.inl _) => some (c, (0 : Fin 3)) | some (.inr (.inl p)) => some (p, 1) | some (.inr (.inr p)) => some (p, 2)) = _
    rw [kind_send]; rfl
  · show (match kind (.dma (recvQ p)) with | none => none | some (.inl _) => some (p, (0 : Fin 3)) | some (.inr (.inl p)) => some (p, 1) | some (.inr (.inr p)) => some (p, 2)) = _
    rw [kind_recv]; rfl

theorem tokOf_dev (x : Dev nD × Dev nD × Fin 3) : (tokOf x).1.1.1 = x.1 := by
  rcases x with ⟨c, p, k⟩; fin_cases k <;> rfl

theorem tokOf_injective : Function.Injective tokOf := fun x y h =>
  Prod.ext ((tokOf_dev x).symm.trans ((congrArg (fun z : GSem nD τ sig × ℕ × Dev nD => z.1.1.1) h).trans (tokOf_dev y)))
    (Option.some.inj ((tokBack_tokOf x).symm.trans ((congrArg tokBack h).trans (tokBack_tokOf y))))
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun p : Dev nD => dutyTok ER (barCell c) 0 p) ∗ (bigSep Finset.univ fun p : Dev nD => dutyTok ER (sendCell c p) 0 c)
    ∗ bigSep Finset.univ fun p : Dev nD => dutyTok ER (recvCell c p) 0 p)

/-- The tokens of the duties device `c` pays. -/
def payToks (c : Dev nD) : sProp 𝕄 :=
  iprop((bigSep Finset.univ fun p : Dev nD => dutyTok ER (barCell p) 0 c) ∗ (bigSep Finset.univ fun p : Dev nD => dutyTok ER (sendCell c p) 0 c)
    ∗ bigSep Finset.univ fun p : Dev nD => dutyTok ER (recvCell p c) 0 c)

theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    BI.bigSep_univ_comm (fun c p : Dev nD => (dutyTok ER (barCell c) 0 p : sProp 𝕄)),
    BI.bigSep_univ_comm (fun c p : Dev nD => (dutyTok ER (recvCell c p) 0 p : sProp 𝕄))]

/-- What the launch deals device `c`. -/
def G (c : Dev nD) : sProp 𝕄 :=
  iprop((bigSep Finset.univ fun k : Cell => roundState ER (Rd m ρ) (kcell (c, k)) 0)
    ∗ (bigSep Finset.univ fun k : Cell => iprop(atPos ER (kcell (c, k)) 0 ∅ 0 ∗ reached ER (kcell (c, k)) 0)) ∗ toks c)

/-- What the devices make of it together. -/
def G' (c : Dev nD) : sProp 𝕄 :=
  iprop((∃ K, records m ρ K) ∗ (bigSep Finset.univ fun k : Cell => atPos ER (kcell (c, k)) 0 ∅ 0) ∗ payToks c)

theorem bigSep_fin3 (Φ : Fin 3 → sProp 𝕄) : bigSep Finset.univ Φ = iprop(Φ 0 ∗ Φ 1 ∗ Φ 2) := bigSep_univ_eq_bigSepL [0, 1, 2] (by decide) (by decide) Φ

theorem bigSep_cell (Φ : Cell → sProp 𝕄) : bigSep Finset.univ Φ
    = iprop(Φ (.inl ()) ∗ (bigSep Finset.univ fun p : Dev nD => Φ (.inr (.inl p))) ∗ bigSep Finset.univ fun p : Dev nD => Φ (.inr (.inr p))) := by
  rw [BI.bigSep_univ_sum, BI.bigSep_univ_sum, show (Finset.univ : Finset Unit) = {()} from rfl, bigSep_singleton]; rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_prod, bigSep_congr (s := Finset.univ) (fun (p : Dev nD) _ => bigSep_fin3 _), bigSep_sep', bigSep_sep']
    rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop((bigSep Finset.univ fun p : Dev nD => semVal (sendCell c p) 0) ∗ bigSep Finset.univ fun p : Dev nD => semVal (recvCell c p) 0) := by
  unfold Pipeline.ownSems0; rw [BI.bigSep_univ_sum]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cell]
  iintro ⟨⟨HS, HV⟩, HB⟩
  isplitl [HB]; · iexact HB
  isplitl [HS]
  · iexact HS
  · iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (Rd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Htk := (toks_dealt (F := F)) $$ Htok
  iapply (with_records (R := records m ρ K) (Φ := fun c : Dev nD => iprop((bigSep Finset.univ fun k : Cell => (atPos ER (kcell (c, k)) 0 ∅ 0 : sProp 𝕄)) ∗ payToks c))
    fun c _ => show _ ⊢ G' m ρ c from by
      unfold G'
      iintro ⟨#H, Ha, Ht⟩
      isplitr; · iexists K; iexact H
      isplitl [Ha] <;> iassumption)
  isplitr
  · unfold records; isplitl; · iexact HI
    iexact HR
  · rw [bigSep_sep']
    isplitl [Hat]; · iexact Hat
    iexact Htk

/-- The records, allocated for all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_ne_recv (a b p : Dev nD) : barCell a ≠ recvCell b p := fun h =>
  absurd (congrArg Prod.snd (kcell_injective (a₁ := (a, .inl ())) (a₂ := (b, .inr (.inr p))) h)) Sum.inl_ne_inr
theorem bar_eq_iff {a b : Dev nD} : Iff (barCell a = barCell b) (a = b) :=
  ⟨fun h => congrArg (fun g : GSem nD τ sig => g.1.1) h, fun h => h ▸ rfl⟩
theorem recv_eq_iff {a b p q : Dev nD} : Iff (recvCell a p = recvCell b q) (a = b ∧ p = q) :=
  ⟨fun h => by
    have h1 := kcell_injective (a₁ := (a, .inr (.inr p))) (a₂ := (b, .inr (.inr q))) h
    exact ⟨congrArg Prod.fst h1, Sum.inr.inj (Sum.inr.inj (congrArg Prod.snd h1))⟩, fun h => by rw [h.1, h.2]⟩

theorem owedS_apply (d : Dev nD) (g : GSem nD τ sig) (n : ℕ) : owedS d n g () = ∑ k ∈ Finset.range n, sendDue d (rev k) g () := by
  induction n with
  | zero => rfl
  | succ n ih => rw [owedS_succ, Pi.add_apply, Finsupp.add_apply, ih, Finset.sum_range_succ]
theorem owedB_apply (d : Dev nD) (g : GSem nD τ sig) (n : ℕ) :
    owedB d n g () = owedS d 8 g () + ∑ k ∈ Finset.range n, barDue d (rev k) g () := by
  induction n with
  | zero => rfl
  | succ n ih => rw [owedB_succ, Pi.add_apply, Finsupp.add_apply, ih, Finset.sum_range_succ, Nat.add_assoc]

theorem sendDue_bar (d q c : Dev nD) : sendDue d q (barCell c) () = 0 := by
  unfold sendDue
  split
  · rfl
  · rw [tallyAt_ne_cell (bar_ne_recv _ _ _)]; rfl
theorem barDue_recv (d q c p : Dev nD) : barDue d q (recvCell c p) () = 0 := by
  unfold barDue
  split
  · rfl
  · rw [tallyAt_ne_cell (bar_ne_recv _ _ _).symm]; rfl
theorem sendDue_recv (d q c p : Dev nD) : sendDue d q (recvCell c p) () = (if q ≠ d ∧ c = q ∧ p = d then 1 else 0) * N := by
  unfold sendDue
  by_cases h : q = d
  · rw [if_pos h, if_neg (fun h' => h'.1 h), Nat.zero_mul]; rfl
  · rw [if_neg h, tallyAt_apply]
    by_cases h2 : c = q ∧ p = d
    · rw [if_pos ⟨recv_eq_iff.mpr h2, rfl⟩, if_pos ⟨h, h2⟩, Nat.one_mul]
    · rw [if_neg (fun h' => h2 (recv_eq_iff.mp h'.1)), if_neg (fun h' => h2 h'.2), Nat.zero_mul]
theorem barDue_bar (d q c : Dev nD) : barDue d q (barCell c) () = if q ≠ d ∧ c = q then 1 else 0 := by
  unfold barDue
  by_cases h : q = d
  · rw [if_pos h, if_neg (fun h' => h'.1 h)]; rfl
  · rw [if_neg h, tallyAt_apply]
    by_cases h2 : c = q
    · rw [if_pos ⟨bar_eq_iff.mpr h2, rfl⟩, if_pos ⟨h, h2⟩]
    · rw [if_neg (fun h' => h2 (bar_eq_iff.mp h'.1)), if_neg (fun h' => h2 h'.2)]

theorem bar_total : ∀ c : Dev nD, (∑ d : Dev nD, ∑ k ∈ Finset.range 8, if rev k ≠ d ∧ c = rev k then 1 else 0) = 7 := by decide
theorem recv_total : ∀ c p : Dev nD, (∑ d : Dev nD, ∑ k ∈ Finset.range 8, if rev k ≠ d ∧ c = rev k ∧ p = d then 1 else 0) = if p = c then 0 else 1 := by decide

theorem owed_bar (d c : Dev nD) : O₀ d (barCell c) () = ∑ k ∈ Finset.range 8, if rev k ≠ d ∧ c = rev k then 1 else 0 := by
  unfold O₀
  rw [owedB_apply, owedS_apply, Finset.sum_congr rfl fun k _ => sendDue_bar d (rev k) c, Finset.sum_const_zero, Nat.zero_add]
  exact Finset.sum_congr rfl fun k _ => barDue_bar d (rev k) c
theorem owed_recv (d c p : Dev nD) : O₀ d (recvCell c p) () = (∑ k ∈ Finset.range 8, if rev k ≠ d ∧ c = rev k ∧ p = d then 1 else 0) * N := by
  unfold O₀
  rw [owedB_apply, owedS_apply, Finset.sum_congr rfl fun k _ => barDue_recv d (rev k) c p, Finset.sum_const_zero, Nat.add_zero, Finset.sum_mul]
  exact Finset.sum_congr rfl fun k _ => sendDue_recv d (rev k) c p

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_total]

theorem launch_recv (c p : Dev nD) (h : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p, ← Finset.sum_mul, recv_total, if_neg h, Nat.one_mul]

theorem drop_any (X : sProp 𝕄) : X ⊢ iprop(emp) := by iintro -; iempintro

theorem unless_intro (c p : Dev nD) (X : sProp 𝕄) : X ⊢ unlessSelf c p X := by
  by_cases h : p = c
  · subst h; rw [unlessSelf_self]; exact drop_any X
  · rw [unlessSelf_ne h]

theorem unless_all (c : Dev nD) (Φ : Dev nD → sProp 𝕄) : bigSep Finset.univ Φ ⊢ bigSep Finset.univ fun p : Dev nD => unlessSelf c p (Φ p) :=
  bigSep_mono fun p _ => unless_intro c p (Φ p)

theorem cred_recv (c p : Dev nD) : (cred (tallyOn (recvCell c p) (launchCredit (Pipeline.owing O₀) 0 (recvCell c p))) : sProp 𝕄)
    ⊢ unlessSelf c p (cred (tallyAt (recvCell c p) () N)) := by
  by_cases h : p = c
  · subst h; rw [unlessSelf_self]; exact drop_any _
  · rw [unlessSelf_ne h, ← launch_recv c p h]

def recvSems : Finset (SemLoc sig) := Finset.univ.map ⟨fun p : Dev nD => semOf (.inr (.inr p)), fun _ _ h => Sum.inr.inj (Sum.inr.inj (semOf_injective h))⟩

theorem creds (c : Dev nD) :
    (Pipeline.launchCred O₀ c : sProp 𝕄) ⊢ iprop(cred (tallyAt (barCell c) () 7) ∗ bigSep Finset.univ fun p : Dev nD => unlessSelf c p (cred (tallyAt (recvCell c p) () N))) := by
  unfold Pipeline.launchCred
  rw [bigSep_univ_at _ (SemLoc.reg barS), launch_bar]
  refine sep_mono_right ((BI.bigSep_subset (show recvSems ⊆ _ from by decide)).trans ?_)
  unfold recvSems
  rw [bigSep_map]
  exact bigSep_mono fun p _ => cred_recv c p

/-! ## The region's two ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H7, HN⟩
  imodintro
  unfold start G' payToks barToks
  icases HG with ⟨HK, Hat, HtB, HtS, HtV⟩
  ihave Hat := (Entails.of_eq (bigSep_cell _)) $$ Hat
  icases Hat with ⟨HaB, HaS, HaV⟩
  isplitl
  · isplitl [HK]; · iexact HK
    isplitl [Hlev]; · iexact Hlev
    isplitl [HtB]
    · iapply (unless_all (F := F) c fun p : Dev nD => (dutyTok ER (barCell p) 0 c)) $$ HtB
    isplitl [H7]; · iexact H7
    isplitl [HaB]; · iexact HaB
    unfold before
    simp only [unless_sep, bigSep_sep']
    isplitr [HaS HaV]
    · isplitl [HtS]
      · iapply (unless_all (F := F) c fun p : Dev nD => (dutyTok ER (sendCell c p) 0 c)) $$ HtS
      isplitl [HtV]
      · iapply (unless_all (F := F) c fun p : Dev nD => (dutyTok ER (recvCell p c) 0 c)) $$ HtV
      iexact HN
    isplitl [HaS]
    · iexact HaS
    · iexact HaV
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m ρ c from rfl, scopedRest0_eq]
  unfold atStart some' holds
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = atEnd c from rfl, scopedRest0_eq, ownSems0_eq, unscopedSems0_eq]
  unfold atEnd some' holds
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    have hq : (((cfg0.win w).sem s : DmaSem sig)).val < 3 := by fin_cases w <;> fin_cases s <;> decide
    rcases t with ⟨_ | _ | _, ht⟩
    · exact mayWait_stage c _ hq 8
    · exact mayWait_stage c _ hq 0
    · exact (drop_any _).trans (Entails.of_eq (MayWait_zero _ _ _).symm)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution ends, with each window's array
    as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllMax
-- ==== Proof.Reference.lean ====
/-
# The run of the reference

Its operations in order, and what its result holds after them as a function of the argument.
-/
module

public import proofs.«01_k».proof.Proof.Gen.ReferenceIdeal
public import Idealize.ShloMosaic.Lib.StableHlo.RunHlo
public import Idealize.ShloMosaic.Lib.Tactic.ProgEq
public import Idealize.ShloMosaic.Lib.Claim

@[expose] public section

set_option maxRecDepth 16384

noncomputable section

namespace Cert.AllMax.Ref

open Idealize.ShloMosaic Idealize.ShloMosaic.TcCoe Idealize.SL.Sem
open Idealize.ShloMosaic.StableHlo
open Cert.ReferenceIdeal Cert.ReferenceIdeal.Gen

variable {F : FTy → Type} [FloatOps F]

/-- Each column's pair of largest value and its row. -/
def best (x : (⟨S32768x1024, .f32⟩ : BufTy).Contents (Elt F)) (j : S1024.Idx) : F .f32 × BitVec 32 :=
  Host.argReduce reducer_argmax_f32_i32 x (iotaInDim S32768x1024 32 0) (constant S_ .f32 0xFF800000#32 : FVec F S_ .f32) (constantI S_ 32 0#32) reducesTo_S32768x1024_S1024_d0 h_S_ j

/-- The reference's result. -/
def out (x : (⟨S32768x1024, .f32⟩ : BufTy).Contents (Elt F)) : (⟨S2x1024, .f32⟩ : BufTy).Contents (Elt F) :=
  concatenate S2x1024 0
    [⟨S1x1024, broadcastInDim S1x1024 ![1] bcast_S1024_S1x1024_1 (Host.reduce FloatOps.maximumf x (constant S_ .f32 0xFF800000#32 : FVec F S_ .f32) reducesTo_S32768x1024_S1024_d0 h_S_)⟩,
      ⟨S1x1024, broadcastInDim S1x1024 ![1] bcast_S1024_S1x1024_1 (sitofp .f32 (fun j => (best x j).2))⟩]
    concatenates_S1x1024_S1x1024_S2x1024_d0

theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = out (m ((c.tc : Thread nD τ).loc main_arg0))
      ∧ r.2.mem ((c.tc : Thread nD τ).loc main_arg0) = m ((c.tc : Thread nD τ).loc main_arg0) := by
  refine θ_run_mono (StableHlo.run_hlo _ _ (by hlo_seq) (by decide) (by decide) ?_ (by intro _ h; (repeat (cases h with | head => rfl | tail _ h => ?_)); exact nomatch h) _ _) ?_
  · exact ⟨nullary_bufs_sub .., nullary_bufs_sub .., nullary_bufs_sub .., quaternary_bufs_sub .., quaternary_bufs_sub .., unary_bufs_sub ..,
      nullary_bufs_sub .., binary_bufs_sub .., unary_bufs_sub .., unary_bufs_sub .., binary_bufs_sub ..⟩
  · intro r h c
    refine ⟨(h c main_v5).trans ?_, (h c main_arg0).trans ?_⟩
    · after_results
      rfl
    · simp only [after_cons, after_nil]
      rfl

end Cert.AllMax.Ref
-- ==== Proof.Frames.lean ====
/-
# The three frames

Each program runs, leaves its argument as it was, and leaves every semaphore at zero.
-/
module

public import proofs.«01_k».proof.Defs
public import proofs.«01_k».proof.Proof.Launch
public import proofs.«01_k».proof.Proof.Gen.Kernel
public import proofs.«01_k».proof.Proof.Reference
public import Idealize.ShloMosaic.Lib.StableHlo.RunHlo
public import Idealize.ShloMosaic.Lib.Claim
public import Idealize.ShloMosaic.Lib.Tactic.ProgEq

@[expose] public section

set_option maxRecDepth 16384

noncomputable section

namespace Cert.AllMax

open Idealize.ShloMosaic Idealize.ShloMosaic.TcCoe Idealize.SL.Sem

instance : Cert.KernelIdeal.Facts := Cert.KernelIdeal.Gen.facts

theorem frame_any {F : FTy → Type} [FloatOps F] (m : (ℓ : Loc KernelIdeal.nD KernelIdeal.τ KernelIdeal.sig) → Buf (Elt F) ℓ) (ρ : Dev KernelIdeal.nD → PrngReg) :
    θ_run KernelIdeal.defs (onTc (τ := KernelIdeal.τ) (KernelIdeal.main (F := F))) ⟨m, fun _ => 0, ρ⟩ (fun r =>
      (∀ c : Dev KernelIdeal.nD, r.2.mem ((c : Thread KernelIdeal.nD KernelIdeal.τ).loc KernelIdeal.main_arg0) = m ((c : Thread KernelIdeal.nD KernelIdeal.τ).loc KernelIdeal.main_arg0))
        ∧ r.2.sem = fun _ => 0) :=
  (θ_run KernelIdeal.defs _ _).mono (fun _ h => ⟨fun c => (h.1 c (0 : Fin 2)).trans (finalA_x m ρ c), h.2⟩) (run_main m ρ)

/-- The two printed programs are one text. -/
theorem defs_same {F : FTy → Type} [FloatOps F] : Kernel.defs (F := F) = KernelIdeal.defs (F := F) := by sl_kernel_rfl

theorem frame_kernel : Cert.quiescent_Kernel (hKernel := Cert.Kernel.Gen.facts) := fun m ρ _ => by
  rw [defs_same]
  exact frame_any (F := Bits) m ρ

theorem frame_kernel_ideal : Cert.quiescent_KernelIdeal (hKernelIdeal := Cert.KernelIdeal.Gen.facts) := fun m ρ _ => frame_any (F := Ideal) m ρ

theorem frame_reference : Cert.quiescent_ReferenceIdeal (hReferenceIdeal := Cert.ReferenceIdeal.Gen.facts) := fun m ρ _ =>
  θ_run_mono (Ref.run_main m ρ) fun r h => ⟨fun c => (h c).2, sem_eq_zero_of_no_sems (by decide) r.2⟩

end Cert.AllMax
-- ==== Proof.FirstMax.lean ====
/-
# The first place of a largest value

`IsFirstMax f a b v i`: on the places from `a` up to `b`, the largest value of `f` is `v`, and `i` is the first place
at which it stands. The statement is closed under putting two neighbouring ranges together, and it has one answer; so
the kernel, which works through halves and devices, and the reference, which works through all rows, agree.
-/
module

public import Idealize.ShloMosaic.PureOps.Ideal.Laws

@[expose] public section

namespace Cert.AllMax

/-- The largest value of `f` on `[a, b)` is `v`, and it stands first at `i`. -/
structure IsFirstMax (f : ℕ → EReal) (a b : ℕ) (v : EReal) (i : ℕ) : Prop where
  lo : a ≤ i
  hi : i < b
  val : f i = v
  le : ∀ k, a ≤ k → k < b → f k ≤ v
  lt : ∀ k, a ≤ k → k < i → f k < v

namespace IsFirstMax

variable {f : ℕ → EReal} {a b c i j n : ℕ} {v w : EReal}

/-- A larger value in the later range is the new one. -/
theorem later (h : IsFirstMax f a b v i) (h' : IsFirstMax f b c w j) (hvw : v < w) : IsFirstMax f a c w j where
  lo := by have := h.lo; have := h.hi; have := h'.lo; omega
  hi := h'.hi
  val := h'.val
  le k hk hk' := by
    rcases Nat.lt_or_ge k b with hb | hb
    · exact (h.le k hk hb).trans hvw.le
    · exact h'.le k hb hk'
  lt k hk hk' := by
    rcases Nat.lt_or_ge k b with hb | hb
    · exact (h.le k hk hb).trans_lt hvw
    · exact h'.lt k hb hk'

/-- Otherwise the earlier one stays. -/
theorem earlier (h : IsFirstMax f a b v i) (h' : IsFirstMax f b c w j) (hvw : ¬ v < w) : IsFirstMax f a c v i where
  lo := h.lo
  hi := by have := h.hi; have := h'.lo; have := h'.hi; omega
  val := h.val
  le k hk hk' := by
    rcases Nat.lt_or_ge k b with hb | hb
    · exact h.le k hk hb
    · exact (h'.le k hb hk').trans (not_lt.1 hvw)
  lt := h.lt

/-- A single place. -/
theorem single (f : ℕ → EReal) (n : ℕ) : IsFirstMax f n (n + 1) (f n) n where
  lo := le_rfl
  hi := n.lt_succ_self
  val := rfl
  le k hk hk' := by rw [show k = n by omega]
  lt k hk hk' := by omega

theorem unique_val (h : IsFirstMax f a b v i) (h' : IsFirstMax f a b w j) : v = w :=
  le_antisymm (h.val ▸ h'.le i h.lo h.hi) (h'.val ▸ h.le j h'.lo h'.hi)

theorem unique_place (h : IsFirstMax f a b v i) (h' : IsFirstMax f a b w j) : i = j := by
  have hv := h.unique_val h'
  rcases lt_trichotomy i j with hl | he | hl
  · exact absurd (h'.lt i h.lo hl) (by rw [h.val, hv]; exact lt_irrefl _)
  · exact he
  · exact absurd (h.lt j h'.lo hl) (by rw [h'.val, hv]; exact lt_irrefl _)

/-- A range read from its own beginning. -/
theorem shift (h : IsFirstMax (fun k => f (a + k)) 0 n v i) : IsFirstMax f a (a + n) v (a + i) where
  lo := by omega
  hi := by have := h.hi; omega
  val := h.val
  le k hk hk' := by
    have := h.le (k - a) (Nat.zero_le _) (by omega)
    rwa [show a + (k - a) = k by omega] at this
  lt k hk hk' := by
    have := h.lt (k - a) (Nat.zero_le _) (by omega)
    rwa [show a + (k - a) = k by omega] at this

theorem congr {g : ℕ → EReal} (h : IsFirstMax f a b v i) (hfg : ∀ k, a ≤ k → k < b → f k = g k) : IsFirstMax g a b v i where
  lo := h.lo
  hi := h.hi
  val := by rw [← hfg i h.lo h.hi]; exact h.val
  le k hk hk' := by rw [← hfg k hk hk']; exact h.le k hk hk'
  lt k hk hk' := by rw [← hfg k hk (hk'.trans h.hi)]; exact h.lt k hk hk'

end IsFirstMax

/-! ## The two folds that find it -/

/-- A fold over the numbers below `n` is one over their list. -/
theorem foldl_finRange {β : Type} (n : ℕ) (g : β → ℕ → β) (z : β) :
    (List.finRange n).foldl (fun acc r => g acc r.val) z = (List.range n).foldl g z := by
  rw [← List.map_coe_finRange_eq_range, List.foldl_map]

/-- The running maximum. -/
theorem foldl_max (f : ℕ → EReal) (n : ℕ) :
    (∀ k < n, f k ≤ (List.range n).foldl (fun acc k => max acc (f k)) ⊥)
      ∧ (0 < n → ∃ k < n, f k = (List.range n).foldl (fun acc k => max acc (f k)) ⊥) := by
  induction n with
  | zero => exact ⟨fun k hk => absurd hk (Nat.not_lt_zero k), fun h => absurd h (lt_irrefl 0)⟩
  | succ n ih =>
    rw [List.range_succ, List.foldl_append, List.foldl_cons, List.foldl_nil]
    refine ⟨fun k hk => ?_, fun _ => ?_⟩
    · rcases Nat.lt_succ_iff_lt_or_eq.1 hk with h | rfl
      · exact (ih.1 k h).trans (le_max_left _ _)
      · exact le_max_right _ _
    · rcases Nat.eq_zero_or_pos n with rfl | hn
      · exact ⟨0, by omega, by simp⟩
      · obtain ⟨k, hk, he⟩ := ih.2 hn
        rcases max_choice ((List.range n).foldl (fun acc k => max acc (f k)) ⊥) (f n) with h | h
        · exact ⟨k, by omega, by rw [h, he]⟩
        · exact ⟨n, by omega, h.symm⟩

/-- The running maximum is the largest value. -/
theorem foldl_max_eq {f : ℕ → EReal} {n i : ℕ} {v : EReal} (h : IsFirstMax f 0 n v i) :
    (List.range n).foldl (fun acc k => max acc (f k)) ⊥ = v := by
  obtain ⟨hle, hex⟩ := foldl_max f n
  obtain ⟨k, hk, he⟩ := hex (by have := h.hi; omega)
  exact le_antisymm (he ▸ h.le k (Nat.zero_le k) hk) (h.val ▸ hle i h.hi)

/-- The running minimum. -/
theorem foldl_min (g : ℕ → ℕ) (z n : ℕ) :
    (∀ k < n, (List.range n).foldl (fun acc k => min acc (g k)) z ≤ g k)
      ∧ ((List.range n).foldl (fun acc k => min acc (g k)) z = z
        ∨ ∃ k < n, g k = (List.range n).foldl (fun acc k => min acc (g k)) z)
      ∧ (List.range n).foldl (fun acc k => min acc (g k)) z ≤ z := by
  induction n with
  | zero => exact ⟨fun k hk => absurd hk (Nat.not_lt_zero k), Or.inl rfl, le_rfl⟩
  | succ n ih =>
    rw [List.range_succ, List.foldl_append, List.foldl_cons, List.foldl_nil]
    refine ⟨fun k hk => ?_, ?_, (min_le_left _ _).trans ih.2.2⟩
    · rcases Nat.lt_succ_iff_lt_or_eq.1 hk with h | rfl
      · exact (min_le_left _ _).trans (ih.1 k h)
      · exact min_le_right _ _
    · rcases min_choice ((List.range n).foldl (fun acc k => min acc (g k)) z) (g n) with h | h
      · rw [h]
        exact ih.2.1.imp id fun ⟨k, hk, he⟩ => ⟨k, by omega, he⟩
      · exact Or.inr ⟨n, by omega, h.symm⟩

open Classical in
/-- The largest value first, then the least place that holds it. -/
theorem isFirstMax_of_folds (f : ℕ → EReal) {n z : ℕ} (hn : 0 < n) (hz : n ≤ z) :
    IsFirstMax f 0 n ((List.range n).foldl (fun acc k => max acc (f k)) ⊥)
      ((List.range n).foldl (fun acc k => min acc (if f k = (List.range n).foldl (fun acc k => max acc (f k)) ⊥ then k else n)) z) := by
  obtain ⟨hle, hex⟩ := foldl_max f n
  obtain ⟨k₀, hk₀, he₀⟩ := hex hn
  generalize (List.range n).foldl (fun acc k => max acc (f k)) ⊥ = v at *
  obtain ⟨hmin, hor, -⟩ := foldl_min (fun k => if f k = v then k else n) z n
  generalize (List.range n).foldl (fun acc k => min acc (if f k = v then k else n)) z = i at *
  have hi : i ≤ k₀ := by have := hmin k₀ hk₀; rwa [if_pos he₀] at this
  have hval : f i = v := by
    rcases hor with h | ⟨k, hk, h⟩
    · omega
    · by_cases hf : f k = v
      · rw [if_pos hf] at h; rw [← h]; exact hf
      · rw [if_neg hf] at h; omega
  refine ⟨Nat.zero_le i, by omega, hval, fun k _ hk => hle k hk, fun k _ hk => lt_of_le_of_ne (hle k (by omega)) fun he => ?_⟩
  have := hmin k (by omega)
  rw [if_pos he] at this
  omega

end Cert.AllMax
-- ==== Proof.Block.lean ====
/-
# What one half of a device's rows yields

For every column the kernel takes the largest value of the half and then the least row that holds it, counted from the
beginning of the device's rows.
-/
module

public import proofs.«01_k».proof.Proof.FirstMax
public import proofs.«01_k».proof.Proof.Slots
public import Idealize.ShloMosaic.Lib.ValueLayout
public import Idealize.ShloMosaic.Lib.ValueIdx
public import Idealize.ShloMosaic.Lib.Pointwise

@[expose] public section

set_option maxRecDepth 16384

noncomputable section

namespace Cert.AllMax

open Idealize.ShloMosaic Idealize.ShloMosaic.ValueIdx
open Cert.KernelIdeal Cert.KernelIdeal.Gen

/-- Column `c` of an array of `R` rows; below the last row nothing counts. -/
def column {R : ℕ} (x : (⟨2, ![R, 1024]⟩ : Shape).Idx → EReal) (c : Fin 1024) (k : ℕ) : EReal :=
  if h : k < R then x (Shape.pair ⟨k, h⟩ c) else ⊥

theorem column_of_lt {R : ℕ} (x : (⟨2, ![R, 1024]⟩ : Shape).Idx → EReal) (c : Fin 1024) {k : ℕ} (h : k < R) :
    column x c k = x (Shape.pair ⟨k, h⟩ c) := dif_pos h

theorem neg_inf : (FloatOps.ofBits .f32 0xFF800000#32 : Ideal .f32) = (⊥ : EReal) := by
  show Ideal.ofBits .f32 0xFF800000#32 = ⊥
  simp [Ideal.ofBits, Ideal.ieee]

theorem rows_max {R : ℕ} (x : (⟨2, ![R, 1024]⟩ : Shape).Idx → EReal) (c : Fin 1024) :
    (List.finRange R).foldl (fun acc r => max acc (x (Shape.pair r c))) ⊥
      = (List.range R).foldl (fun acc k => max acc (column x c k)) ⊥ := by
  rw [← foldl_finRange R (fun acc k => max acc (column x c k))]
  refine congrArg (fun g => List.foldl g _ _) (funext fun acc => funext fun r => ?_)
  rw [column_of_lt x c r.isLt]

theorem rows_word {R : ℕ} (op : BitVec 32 → BitVec 32 → BitVec 32) (x : (⟨2, ![R, 1024]⟩ : Shape).Idx → BitVec 32) (c : Fin 1024)
    (g : ℕ → BitVec 32) (hg : ∀ r : Fin R, x (Shape.pair r c) = g r.val) (z : BitVec 32) :
    (List.finRange R).foldl (fun acc r => op acc (x (Shape.pair r c))) z = (List.range R).foldl (fun acc k => op acc (g k)) z := by
  rw [← foldl_finRange R (fun acc k => op acc (g k))]
  exact congrArg (fun g => List.foldl g _ _) (funext fun acc => funext fun r => by rw [hg r])

/-- The largest value of each column. -/
theorem pay3_apply (x : Vec Ideal S2048x1024 .f32) (j : S1024.Idx) :
    k0_pay3 x j = (List.range 2048).foldl (fun acc k => max acc (column x (j 0) k)) ⊥ := by
  unfold k0_pay3 k0_pay2
  simp only [multiReduction_maximumf_eq_reduceFold, shapeCast_self, neg_inf]
  exact (reduceFold_rows _ _ _ _ _).trans (rows_max (R := 2048) x (j 0))

/-- A minimum of small numbers is one of words. -/
theorem minsi_ofNat {a b : ℕ} (ha : a < 2 ^ 31) (hb : b < 2 ^ 31) :
    IntOp.minsi (BitVec.ofNat 32 a) (BitVec.ofNat 32 b) = BitVec.ofNat 32 (min a b) := by
  have h1 : (BitVec.ofNat 32 a).toInt = a := by rw [BitVec.toInt_ofNat']; simp only [Int.bmod]; omega
  have h2 : (BitVec.ofNat 32 b).toInt = b := by rw [BitVec.toInt_ofNat']; simp only [Int.bmod]; omega
  unfold IntOp.minsi
  by_cases h : a < b
  · rw [if_pos (by rw [BitVec.slt, h1, h2]; simpa using h), min_eq_left h.le]
  · rw [if_neg (by rw [BitVec.slt, h1, h2]; simpa using h), min_eq_right (not_lt.1 h)]

theorem foldl_minsi (g : ℕ → ℕ) (z n : ℕ) (hz : z < 2 ^ 31) (hg : ∀ k < n, g k < 2 ^ 31) :
    (List.range n).foldl (fun acc k => IntOp.minsi acc (BitVec.ofNat 32 (g k))) (BitVec.ofNat 32 z)
      = BitVec.ofNat 32 ((List.range n).foldl (fun acc k => min acc (g k)) z) := by
  induction n with
  | zero => rfl
  | succ n ih =>
    rw [List.range_succ, List.foldl_append, List.foldl_append, ih fun k hk => hg k (by omega)]
    exact minsi_ofNat ((foldl_min g z n).2.2.trans_lt hz) (hg n (by omega))

theorem select_oeq (a b : EReal) [Decidable (a = b)] (u w : BitVec 32) :
    Scalar.select (Ideal.cmp .oeq a b) u w = if a = b then u else w := by
  by_cases h : a = b <;> simp [Scalar.select, Ideal.cmp, h]

/-- The half at grid point `i`: the largest value and the first row of the half that holds it. -/
theorem half_firstMax (i : grid0.Coords) (x : Vec Ideal S2048x1024 .f32) (j : S1024.Idx) :
    ∃ n, k0_pay4 i x j = BitVec.ofNat 32 (n + 2048 * (i 0).val) ∧ IsFirstMax (column x (j 0)) 0 2048 (k0_pay3 x j) n := by
  classical
  refine ⟨(List.range 2048).foldl (fun acc k => min acc (if column x (j 0) k = k0_pay3 x j then k else 2048)) 2147483647, ?_, ?_⟩
  · unfold k0_pay4
    simp only [multiReductionI_eq_reduceFold]
    show IntOp.addi (reduceFold _ _ _ _ j) _ = _
    rw [reduceFold_rows, Scalar.muli]
    refine (congrArg₂ IntOp.addi ((rows_word (R := 2048) IntOp.minsi _ (j 0)
      (fun k => BitVec.ofNat 32 (if column x (j 0) k = k0_pay3 x j then k else 2048)) (fun r => ?_) 2147483647#32).trans
      (foldl_minsi _ 2147483647 2048 (by omega) fun k hk => ?_)) ?_).trans (BitVec.ofNat_add _ _).symm
    · rw [column_of_lt x (j 0) r.isLt]
      have hb : broadcastTo S2048x1024 (shapeCast S1x1024 (k0_pay3 x) shapeCasts_S1024_S1x1024) broadcasts_S1x1024_S2048x1024
          (Shape.pair r (j 0)) = k0_pay3 x j := by
        pointwise
        exact congrArg (k0_pay3 x) (funext fun a => by rw [Fin.fin_one_eq_zero a]; rfl)
      have hx : k0_pay2 x (Shape.pair r (j 0)) = x (Shape.pair r (j 0)) := by
        rw [k0_pay2, shapeCast_self]
      have hi : iota Kind.tc S2048x1024 32 [0] iota_S2048x1024_d0_w32 (Shape.pair r (j 0)) = BitVec.ofNat 32 r.val :=
        congrArg (BitVec.ofNat 32) (by show 0 * 2048 + r.val = r.val; omega)
      rw [select_apply, cmpf_apply, hb, hx, hi, Ideal.cmpf_def]
      exact (select_oeq _ _ _ _).trans (apply_ite (BitVec.ofNat 32) _ _ _).symm
    · split <;> omega
    · show BitVec.ofNat 32 (i 0).val * BitVec.ofNat 32 2048 = _
      rw [← BitVec.ofNat_mul, Nat.mul_comm]
  · rw [pay3_apply]
    exact isFirstMax_of_folds (column x (j 0)) (by omega) (by omega)

end Cert.AllMax
-- ==== Proof.Rows.lean ====
/-
# One row read at a column

The kernel keeps a row of 1024 numbers in arrays of one, two or three axes. These lemmas read each of them at a column.
-/
module

public import proofs.«01_k».proof.Proof.Block

@[expose] public section

set_option maxRecDepth 16384

noncomputable section

namespace Cert.AllMax

open Idealize.ShloMosaic Idealize.ShloMosaic.ValueIdx
open Cert.KernelIdeal Cert.KernelIdeal.Gen

variable {α : Type}

/-- Column `q` of a vector, -/
def vec (q : Fin 1024) : S1024.Idx := ValueIdx.ix1 q

/-- of a single row, -/
def row (q : Fin 1024) : S1x1024.Idx := ValueIdx.ix2 (0 : Fin 1) q

/-- of a row with two leading axes, -/
def row3 (q : Fin 1024) : S1x1x1024.Idx := ValueIdx.ix3 (0 : Fin 1) (0 : Fin 1) q

/-- of one of two rows, -/
def pairRow (r : Fin 2) (q : Fin 1024) : S2x1024.Idx := ValueIdx.ix2 r q

/-- and of one of two rows with a leading axis. -/
def pairRow3 (r : Fin 2) (q : Fin 1024) : S1x2x1024.Idx := ValueIdx.ix3 (0 : Fin 1) r q

theorem to_row (v : S1024.Idx → α) (h) (q : Fin 1024) : shapeCast S1x1024 v h (row q) = v (vec q) :=
  shapeCast_a_1a_apply v h (0 : Fin 1) q

theorem of_row (v : S1x1024.Idx → α) (h) (q : Fin 1024) : shapeCast S1024 v h (vec q) = v (row q) :=
  shapeCast_1a_a_apply v h q

theorem of_row3 (v : S1x1x1024.Idx → α) (h) (q : Fin 1024) : shapeCast S1024 v h (vec q) = v (row3 q) := by
  pointwise
  exact congrArg v (funext fun a => match a with | 0 => rfl | 1 => rfl | 2 => rfl)

theorem of_stack (v : S2x1024.Idx → α) (h) (r : Fin 2) (q : Fin 1024) : shapeCast S1x2x1024 v h (pairRow3 r q) = v (pairRow r q) :=
  shapeCast_ab_1ab_apply v h (0 : Fin 1) r q

theorem stack_top (u v : S1x1024.Idx → α) (h) (q : Fin 1024) :
    concatenate S2x1024 0 [⟨S1x1024, u⟩, ⟨S1x1024, v⟩] h (pairRow 0 q) = u (row q) := by
  unfold pairRow
  pointwise
  exact congrArg u (funext fun a => match a with | 0 => rfl | 1 => rfl)

theorem stack_bottom (u v : S1x1024.Idx → α) (h) (q : Fin 1024) :
    concatenate S2x1024 0 [⟨S1x1024, u⟩, ⟨S1x1024, v⟩] h (pairRow 1 q) = v (row q) := by
  unfold pairRow
  pointwise
  exact congrArg v (funext fun a => match a with | 0 => rfl | 1 => rfl)

theorem eq_pairRow (y : S2x1024.Idx) : y = pairRow (y 0) (y 1) := ValueIdx.eq_ix2 y

end Cert.AllMax
-- ==== Proof.Device.lean ====
/-
# What a device sends

A device's two halves put together: for every column the largest value of its 4096 rows, and the first row of the whole
array that holds it.
-/
module

public import proofs.«01_k».proof.Proof.Rows
public import proofs.«01_k».proof.Proof.Buffers
public import Idealize.ShloMosaic.Lib.Layout
public import Idealize.ShloMosaic.Lib.Pipeline.ValueKit

@[expose] public section

set_option maxRecDepth 16384

noncomputable section

namespace Cert.AllMax

open Idealize.ShloMosaic Idealize.ShloMosaic.TcCoe Idealize.ShloMosaic.ValueIdx
open Cert.KernelIdeal Cert.KernelIdeal.Gen

/-- Every device holds its block of the whole array. -/
def Split (m : (ℓ : Loc nD τ sig) → Buf (Elt Ideal) ℓ) (X : (⟨2, ![32768, 1024]⟩ : Shape).Idx → EReal) : Prop :=
  ∀ c : Dev nD, m ((c : Thread nD τ).loc main_arg0) = Layout.block ⟨2, ![4096, 1024]⟩ ⟨2, ![32768, 1024]⟩ 0 8 c X

variable {m : (ℓ : Loc nD τ sig) → Buf (Elt Ideal) ℓ} (ρ : Dev nD → PrngReg) {X : (⟨2, ![32768, 1024]⟩ : Shape).Idx → EReal}

theorem index_row (t : Fin cfg0.N) : win0_0.index t 0 = (grid0.coords t 0).val := by
  rcases fin_N0 t with rfl | rfl <;> decide

theorem index_col (t : Fin cfg0.N) : win0_0.index t 1 = 0 := by
  rcases fin_N0 t with rfl | rfl <;> decide

/-- Where an element of a half lies in the device's block. -/
theorem emb_apply (t : Fin cfg0.N) (r : Fin 2048) (q : Fin 1024) (a : Fin 2) :
    (((win0_0.blk t).view.emb (Shape.pair (d := ![2048, 1024]) r q) : S4096x1024.Idx) a).val
      = if a = 0 then 2048 * (grid0.coords t 0).val + r.val else q.val := by
  match a with
  | 0 =>
    refine (Pipeline.Window.rect_emb_val win0_0 t (Shape.pair (d := ![2048, 1024]) r q) 0).trans ?_
    rw [index_row, Nat.mul_comm, if_pos rfl]
    rfl
  | 1 =>
    refine (Pipeline.Window.rect_emb_val win0_0 t (Shape.pair (d := ![2048, 1024]) r q) 1).trans ?_
    rw [index_col, Nat.zero_mul, Nat.zero_add, if_neg (by decide)]
    rfl

theorem xblk_apply (hX : Split m X) (c : Dev nD) (t : Fin cfg0.N) (r : Fin 2048) (q : Fin 1024) :
    xblk m ρ c t (Shape.pair r q) = column X q (4096 * c.val + 2048 * (grid0.coords t 0).val + r.val) := by
  have hc : c.val < 8 := c.isLt
  have ht : (grid0.coords t 0).val < 2 := (grid0.coords t 0).isLt
  have h := hX c
  unfold xblk s₀
  dsimp only
  rw [h, column_of_lt X q (by omega)]
  have hT : Layout.Tiles ⟨2, ![4096, 1024]⟩ ⟨2, ![32768, 1024]⟩ 0 8 := by decide
  show X (hT.idx c ((win0_0.blk t).view.emb (Shape.pair r q))) = _
  refine congrArg X (funext fun a => Fin.ext ?_)
  match a with
  | 0 =>
    refine ((Layout.idx_rows_val hT c _).1.trans (congrArg (c.val * 4096 + ·) (emb_apply t r q 0))).trans ?_
    show c.val * 4096 + (2048 * (grid0.coords t 0).val + r.val) = 4096 * c.val + 2048 * (grid0.coords t 0).val + r.val
    omega
  | 1 => exact (Layout.idx_rows_val hT c _).2.trans (emb_apply t r q 1)

/-- A half's columns are stretches of the whole array's. -/
theorem column_xblk (hX : Split m X) (c : Dev nD) (t : Fin cfg0.N) (q : Fin 1024) (k : ℕ) (hk : k < 2048) :
    column (xblk m ρ c t) q k = column X q (4096 * c.val + 2048 * (grid0.coords t 0).val + k) := by
  rw [column_of_lt _ _ hk]
  exact xblk_apply ρ hX c t ⟨k, hk⟩ q

/-- One half, in rows of the whole array. -/
theorem half_whole (hX : Split m X) (c : Dev nD) (t : Fin cfg0.N) (q : Fin 1024) :
    ∃ n, k0_pay4 (grid0.coords t) (xblk m ρ c t) (vec q) = BitVec.ofNat 32 n ∧ n < 4096
      ∧ IsFirstMax (column X q) (4096 * c.val + 2048 * (grid0.coords t 0).val) (4096 * c.val + 2048 * (grid0.coords t 0).val + 2048)
        (k0_pay3 (xblk m ρ c t) (vec q)) (4096 * c.val + n) := by
  obtain ⟨n, hn, hf⟩ := half_firstMax (grid0.coords t) (xblk m ρ c t) (vec q)
  have ht : (grid0.coords t 0).val < 2 := (grid0.coords t 0).isLt
  refine ⟨_, hn, by have := hf.hi; omega, ?_⟩
  have := (hf.congr fun k _ hk => column_xblk ρ hX c t q k hk).shift
  rwa [show 4096 * c.val + 2048 * (grid0.coords t 0).val + n = 4096 * c.val + (n + 2048 * (grid0.coords t 0).val) by omega] at this

theorem select_ogt {α : Type} (a b : EReal) [Decidable (b < a)] (u w : α) :
    Scalar.select (Ideal.cmp .ogt a b) u w = if b < a then u else w := by
  by_cases h : b < a <;> simp [Scalar.select, Ideal.cmp, h]

/-- The value the second half leaves, -/
theorem pay9_row (x : Vec Ideal S2048x1024 .f32) (v : Vec Ideal S1x1024 .f32) (q : Fin 1024) [Decidable ((v (row q) : EReal) < k0_pay3 x (vec q))] :
    k0_pay9 x v (row q) = if (v (row q) : EReal) < k0_pay3 x (vec q) then k0_pay3 x (vec q) else v (row q) := by
  unfold k0_pay9 k0_pay8 k0_pay7
  dsimp only
  rw [to_row, select_apply, cmpf_apply, of_row, Ideal.cmpf_def, select_ogt]

/-- and the row number. -/
theorem pay10_row (i : grid0.Coords) (x : Vec Ideal S2048x1024 .f32) (v : Vec Ideal S1x1024 .f32) (n : Vec Ideal S1x1024 .i32) (q : Fin 1024)
    [Decidable ((v (row q) : EReal) < k0_pay3 x (vec q))] :
    k0_pay10 i x v n (row q) = if (v (row q) : EReal) < k0_pay3 x (vec q) then k0_pay4 i x (vec q) else n (row q) := by
  unfold k0_pay10 k0_pay8 k0_pay7
  dsimp only
  rw [to_row, select_apply, cmpf_apply, of_row, of_row, Ideal.cmpf_def, select_ogt]

theorem pay5_row (x : Vec Ideal S2048x1024 .f32) (q : Fin 1024) : k0_pay5 x (row q) = k0_pay3 x (vec q) := by
  unfold k0_pay5; exact to_row _ _ q

theorem pay6_row (i : grid0.Coords) (x : Vec Ideal S2048x1024 .f32) (q : Fin 1024) : k0_pay6 i x (row q) = k0_pay4 i x (vec q) := by
  unfold k0_pay6; exact to_row _ _ q

/-- The whole device: both halves. -/
theorem device_firstMax (hX : Split m X) (c : Dev nD) (q : Fin 1024) :
    ∃ n, ri1 m ρ c (row q) = BitVec.ofNat 32 n ∧ n < 4096
      ∧ IsFirstMax (column X q) (4096 * c.val) (4096 * (c.val + 1)) (rv1 m ρ c (row q)) (4096 * c.val + n) := by
  classical
  obtain ⟨n₀, h₀, l₀, f₀⟩ := half_whole ρ hX c t0_0 q
  obtain ⟨n₁, h₁, l₁, f₁⟩ := half_whole ρ hX c t0_1 q
  rw [show (grid0.coords t0_0 0).val = 0 by decide] at f₀
  rw [show (grid0.coords t0_1 0).val = 1 by decide] at f₁
  unfold rv1 ri1 rv0 ri0
  rw [pay9_row, pay10_row, pay5_row, pay6_row, h₀, h₁]
  by_cases h : (k0_pay3 (xblk m ρ c t0_0) (vec q) : EReal) < k0_pay3 (xblk m ρ c t0_1) (vec q)
  · rw [if_pos h, if_pos h]
    exact ⟨n₁, rfl, l₁, f₀.later f₁ h⟩
  · rw [if_neg h, if_neg h]
    exact ⟨n₀, rfl, l₀, f₀.earlier f₁ h⟩

theorem wordOf_eq (c : Dev nD) : wordOf c = BitVec.ofNat 32 c.val := by
  revert c; decide

/-- The two rows the device sends: the values, -/
theorem rows_val (c : Dev nD) (q : Fin 1024) : rows m ρ c (pairRow3 0 q) = rv1 m ρ c (row q) := by
  unfold rows k0_pay11
  rw [shapeCast_self, of_stack, stack_top, to_row, of_row]

/-- and the row numbers as numbers. -/
theorem rows_idx (hX : Split m X) (c : Dev nD) (q : Fin 1024) (n : ℕ) (hn : n < 4096) (h : ri1 m ρ c (row q) = BitVec.ofNat 32 n) :
    rows m ρ c (pairRow3 1 q) = (((4096 * c.val + n : ℕ) : ℝ) : EReal) := by
  unfold rows k0_pay11
  rw [shapeCast_self, of_stack, stack_bottom, to_row, sitofp_apply, wordOf_eq]
  show FloatOps.sitofp .f32 (IntOp.addi (IntOp.muli (BitVec.ofNat 32 c.val) 4096#32) (shapeCast S1024 (ri1 m ρ c) _ (vec q))) = _
  rw [of_row, h]
  have hc : c.val < 8 := c.isLt
  have : IntOp.addi (IntOp.muli (BitVec.ofNat 32 c.val) 4096#32) (BitVec.ofNat 32 n) = BitVec.ofNat 32 (4096 * c.val + n) := by
    show BitVec.ofNat 32 c.val * BitVec.ofNat 32 4096 + BitVec.ofNat 32 n = _
    rw [← BitVec.ofNat_mul, ← BitVec.ofNat_add, Nat.mul_comm]
  rw [this]
  show ((((BitVec.ofNat 32 (4096 * c.val + n)).toInt : ℤ) : ℝ) : EReal) = _
  rw [show (BitVec.ofNat 32 (4096 * c.val + n)).toInt = ((4096 * c.val + n : ℕ) : ℤ) by
    rw [BitVec.toInt_ofNat']; simp only [Int.bmod]; omega, Int.cast_natCast]

end Cert.AllMax
-- ==== Proof.Gather.lean ====
/-
# What the gathered rows fold to

Every device folds the eight devices' rows in the same order, a later row replacing an earlier one only where its value
is larger; so for every column it ends with the largest value of the whole array and the first row that holds it.
-/
module

public import proofs.«01_k».proof.Proof.Device

@[expose] public section

set_option maxRecDepth 16384

noncomputable section

namespace Cert.AllMax

open Idealize.ShloMosaic Idealize.ShloMosaic.TcCoe Idealize.ShloMosaic.ValueIdx
open Cert.KernelIdeal Cert.KernelIdeal.Gen

variable {m : (ℓ : Loc nD τ sig) → Buf (Elt Ideal) ℓ} (ρ : Dev nD → PrngReg) {X : (⟨2, ![32768, 1024]⟩ : Shape).Idx → EReal}

/-- Row `r` of slot `p` is row `r` of what device `p` sent. -/
theorem slotRow_apply (p : Dev nD) (r : Fin 2) (q : Fin 1024) : slotRow m ρ p r (row3 q) = rows m ρ p (pairRow3 r q) := by
  unfold slotRow
  show gath m ρ _ = _
  unfold gath
  refine congr (congrArg (rows m ρ) (Fin.ext ?_)) (funext fun a => Fin.ext ?_)
  · show p.val + 1 * 0 = p.val
    omega
  · match a with
    | 0 => rfl
    | 1 =>
      show r.val + 1 * 0 = r.val
      omega
    | 2 =>
      show 0 + 1 * q.val = q.val
      omega

/-- A step of the fold keeps the larger value, -/
theorem stepV_row (r : Vec Ideal S1x1x1024 .f32) (v : Vec Ideal S1x1024 .f32) (q : Fin 1024) [Decidable ((v (row q) : EReal) < r (row3 q))] :
    stepV r v (row q) = if (v (row q) : EReal) < r (row3 q) then r (row3 q) else v (row q) := by
  unfold stepV k0_pay23 k0_pay22 k0_pay21 k0_pay20
  dsimp only
  rw [to_row, select_apply, cmpf_apply, of_row, of_row3, Ideal.cmpf_def, select_ogt]

/-- and its row number. -/
theorem stepI_row (r ri : Vec Ideal S1x1x1024 .f32) (v i : Vec Ideal S1x1024 .f32) (q : Fin 1024) [Decidable ((v (row q) : EReal) < r (row3 q))] :
    stepI r ri v i (row q) = if (v (row q) : EReal) < r (row3 q) then ri (row3 q) else i (row q) := by
  unfold stepI k0_pay29 k0_pay27 k0_pay26 k0_pay25
  dsimp only
  rw [to_row, select_apply, cmpf_apply, of_row, of_row, of_row3, of_row3, Ideal.cmpf_def, select_ogt]

/-- One device's rows. -/
theorem slot_firstMax (hX : Split m X) (p : Dev nD) (q : Fin 1024) :
    ∃ k : ℕ, slotRow m ρ p 1 (row3 q) = ((k : ℝ) : EReal)
      ∧ IsFirstMax (column X q) (4096 * p.val) (4096 * (p.val + 1)) (slotRow m ρ p 0 (row3 q)) k := by
  obtain ⟨n, hn, hlt, hf⟩ := device_firstMax ρ hX p q
  exact ⟨_, (slotRow_apply ρ p 1 q).trans (rows_idx ρ hX p q n hlt hn), by rw [slotRow_apply, rows_val]; exact hf⟩

theorem fold_firstMax (hX : Split m X) (q : Fin 1024) (n : ℕ) (hn : n < 8) :
    ∃ k : ℕ, foldI m ρ n (row q) = ((k : ℝ) : EReal) ∧ IsFirstMax (column X q) 0 (4096 * (n + 1)) (foldV m ρ n (row q)) k := by
  classical
  induction n with
  | zero =>
    obtain ⟨k, hk, hf⟩ := slot_firstMax ρ hX 0 q
    refine ⟨k, ?_, ?_⟩
    · rw [foldI, k0_pay13, ← hk]
      rw [to_row, of_row3]
    · rw [foldV, k0_pay12]
      rw [to_row, of_row3]
      exact hf
  | succ n ih =>
    obtain ⟨k, hk, hf⟩ := ih (by omega)
    obtain ⟨k', hk', hf'⟩ := slot_firstMax ρ hX (peer (n + 1)) q
    have hp : (peer (n + 1)).val = n + 1 := Nat.mod_eq_of_lt hn
    rw [hp] at hf'
    rw [foldV, foldI, stepV_row, stepI_row, hk, hk']
    by_cases h : (foldV m ρ n (row q) : EReal) < slotRow m ρ (peer (n + 1)) 0 (row3 q)
    · rw [if_pos h, if_pos h]
      exact ⟨k', rfl, hf.later hf' h⟩
    · rw [if_neg h, if_neg h]
      exact ⟨k, rfl, hf.earlier hf' h⟩

/-- The kernel's result, column by column. -/
theorem result_firstMax (hX : Split m X) (q : Fin 1024) :
    ∃ k : ℕ, result m ρ (pairRow 1 q) = ((k : ℝ) : EReal) ∧ IsFirstMax (column X q) 0 32768 (result m ρ (pairRow 0 q)) k := by
  obtain ⟨k, hk, hf⟩ := fold_firstMax ρ hX q 7 (by omega)
  refine ⟨k, ?_, ?_⟩
  · rw [← hk, result, k0_pay53]
    rw [stack_bottom, to_row, of_row]
  · rw [result, k0_pay53]
    rw [stack_top, to_row, of_row]
    exact hf

end Cert.AllMax
-- ==== Proof.RefValue.lean ====
/-
# What the reference computes

Its argmax runs down each column with a pair of a value and a row; after every row the pair is the largest value so far
and the first row that holds it.
-/
module

public import proofs.«01_k».proof.Proof.Reference
public import proofs.«01_k».proof.Proof.Rows
public import Idealize.ShloMosaic.Lib.KernelVsHost

@[expose] public section

set_option maxRecDepth 16384

noncomputable section

namespace Cert.AllMax.Ref

open Idealize.ShloMosaic Idealize.ShloMosaic.ValueIdx
open Cert.ReferenceIdeal Cert.ReferenceIdeal.Gen

/-- One step of the argmax on extended reals. -/
def step (a b : EReal × BitVec 32) : EReal × BitVec 32 := reducer_argmax_f32_i32 (F := Ideal) a b

/-- A larger value replaces the pair; so does an equal one in a row that does not come later. -/
theorem step_take (a b : EReal × BitVec 32) (h : a.1 < b.1 ∨ (a.1 = b.1 ∧ a.2.slt b.2 = false)) : step a b = b := by
  rcases h with h | ⟨h, h'⟩
  · have h1 : ¬ b.1 < a.1 := not_lt.2 h.le
    have h2 : ¬ a.1 = b.1 := h.ne
    simp [step, reducer_argmax_f32_i32, Ideal.cmpf_def, Ideal.cmp, Scalar.select, IntOp.ori, IntOp.andi, h1, h2]
  · have h1 : ¬ b.1 < a.1 := not_lt.2 h.le
    simp [step, reducer_argmax_f32_i32, Ideal.cmpf_def, Ideal.cmp, Scalar.select, IntOp.ori, IntOp.andi, IntOp.cmpi, h, h']

/-- Otherwise the pair stays. -/
theorem step_keep (a b : EReal × BitVec 32) (h : ¬ a.1 < b.1) (h' : a.2.slt b.2 = true) : step a b = a := by
  rcases (not_lt.1 h).lt_or_eq with h1 | h1
  · simp [step, reducer_argmax_f32_i32, Ideal.cmpf_def, Ideal.cmp, Scalar.select, IntOp.ori, IntOp.andi, h1, h1.ne']
  · simp [step, reducer_argmax_f32_i32, Ideal.cmpf_def, Ideal.cmp, Scalar.select, IntOp.ori, IntOp.andi, IntOp.cmpi, h1, h']

theorem slt_ofNat {i n : ℕ} (hi : i < n) (hn : n < 2 ^ 31) : (BitVec.ofNat 32 i).slt (BitVec.ofNat 32 n) = true := by
  have h1 : (BitVec.ofNat 32 i).toInt = i := by rw [BitVec.toInt_ofNat']; simp only [Int.bmod]; omega
  have h2 : (BitVec.ofNat 32 n).toInt = n := by rw [BitVec.toInt_ofNat']; simp only [Int.bmod]; omega
  rw [BitVec.slt, h1, h2]
  simpa using hi

/-- The pair after the first `n` rows. -/
def upTo (f : ℕ → EReal) (n : ℕ) : EReal × BitVec 32 :=
  (List.range n).foldl (fun acc k => step acc (f k, BitVec.ofNat 32 k)) (⊥, 0#32)

theorem upTo_succ (f : ℕ → EReal) (n : ℕ) : upTo f (n + 1) = step (upTo f n) (f n, BitVec.ofNat 32 n) := by
  rw [upTo, List.range_succ, List.foldl_append, List.foldl_cons, List.foldl_nil]
  rfl

theorem upTo_firstMax (f : ℕ → EReal) (n : ℕ) (hn : n < 2 ^ 31) :
    ∃ i, (upTo f (n + 1)).2 = BitVec.ofNat 32 i ∧ IsFirstMax f 0 (n + 1) (upTo f (n + 1)).1 i := by
  induction n with
  | zero =>
    rw [upTo_succ, step_take]
    · exact ⟨0, rfl, IsFirstMax.single f 0⟩
    · rcases (bot_le (a := f 0)).lt_or_eq with h | h
      · exact Or.inl h
      · exact Or.inr ⟨h, (by decide : (0#32 : BitVec 32).slt 0#32 = false)⟩
  | succ n ih =>
    obtain ⟨i, hi, hf⟩ := ih (by omega)
    rw [upTo_succ]
    by_cases h : (upTo f (n + 1)).1 < f (n + 1)
    · rw [step_take _ _ (Or.inl h)]
      exact ⟨n + 1, rfl, hf.later (IsFirstMax.single f (n + 1)) h⟩
    · rw [step_keep _ _ h (by rw [hi]; exact slt_ofNat hf.hi hn)]
      exact ⟨i, hi, hf.earlier (IsFirstMax.single f (n + 1)) h⟩

/-- A fold of pairs is one fold over the pairs. -/
theorem reduce2_eq_reduceFold {α β : Type} {s t u : Shape} {axes : List (Fin s.rank)} (f : α × β → α × β → α × β) (x : s.Idx → α) (y : s.Idx → β)
    (ix : u.Idx → α) (iy : u.Idx → β) (h : s.ReducesTo axes t) (h' : s.Reduces axes t) (hu : 0 < u.numel) (j : t.Idx) :
    Host.reduce2 f x y ix iy h hu j
      = reduceFold h' f (ix (Shape.Idx.first hu), iy (Shape.Idx.first hu)) (fun i => (x i, y i)) j := by
  rw [Host.reduce2_eq_foldl_fiber, Host.argReduceFiber, List.foldl_map, h.drop_eq_drop h', reduceFold]

theorem rows_pair {R : ℕ} (f : EReal × BitVec 32 → EReal × BitVec 32 → EReal × BitVec 32) (x : (⟨2, ![R, 1024]⟩ : Shape).Idx → EReal) (c : Fin 1024) (z) :
    (List.finRange R).foldl (fun acc r => f acc (x (Shape.pair r c), BitVec.ofNat 32 r.val)) z
      = (List.range R).foldl (fun acc k => f acc (column x c k, BitVec.ofNat 32 k)) z := by
  rw [← foldl_finRange R (fun acc k => f acc (column x c k, BitVec.ofNat 32 k))]
  refine congrArg (fun g => List.foldl g _ _) (funext fun acc => funext fun r => ?_)
  rw [column_of_lt x c r.isLt]

theorem reduces_rows : S32768x1024.Reduces [0] S1024 := by decide

/-- The reference's fold down a column. -/
theorem best_eq (x : (⟨2, ![32768, 1024]⟩ : Shape).Idx → EReal) (q : Fin 1024) :
    (best (F := Ideal) x (vec q) : EReal × BitVec 32) = upTo (column x q) 32768 := by
  unfold best
  rw [Ideal.argReduce_eq_reduce2, reduce2_eq_reduceFold _ _ _ _ _ _ reduces_rows]
  refine Eq.trans ?_ (rows_pair (R := 32768) step x q (⊥, 0#32))
  refine (reduceFold_rows (d := ![32768, 1024]) reduces_rows (reducer_argmax_f32_i32 (F := Ideal)) _ _ (vec q)).trans ?_
  refine congrArg (fun z => List.foldl _ z _) ?_
  exact Prod.ext neg_inf rfl

/-- The largest value of a column. -/
theorem max_eq (x : (⟨2, ![32768, 1024]⟩ : Shape).Idx → EReal) (q : Fin 1024) :
    (Host.reduce (FloatOps.maximumf (F := Ideal) (φ := .f32)) x (constant S_ .f32 0xFF800000#32 : FVec Ideal S_ .f32) reducesTo_S32768x1024_S1024_d0 h_S_ (vec q) : EReal)
      = (List.range 32768).foldl (fun acc k => max acc (column x q k)) ⊥ := by
  refine (congrFun (hostReduce_maximumf_eq_multiReduction (F := Ideal) (φ := .f32) x 0xFF800000#32 _ _ reduces_rows (.inl rfl) rfl) (vec q)).trans ?_
  refine (congrFun (multiReduction_maximumf_eq_reduceFold (F := Ideal) (φ := .f32) x 0xFF800000#32 reduces_rows (.inl rfl) rfl) (vec q)).trans ?_
  rw [neg_inf]
  exact (reduceFold_rows _ _ _ _ _).trans (rows_max (R := 32768) x q)

theorem to_row_bcast {α : Type} (v : S1024.Idx → α) (q : Fin 1024) :
    broadcastInDim S1x1024 ![1] bcast_S1024_S1x1024_1 v (row q) = v (vec q) := by
  refine broadcastInDim_apply _ _ _ _ _ fun a => ?_
  match a with
  | 0 => rfl

/-- The reference's result, column by column. -/
theorem out_firstMax (x : (⟨2, ![32768, 1024]⟩ : Shape).Idx → EReal) (q : Fin 1024) :
    ∃ k : ℕ, (out (F := Ideal) x (pairRow 1 q) : EReal) = ((k : ℝ) : EReal)
      ∧ IsFirstMax (column x q) 0 32768 (out (F := Ideal) x (pairRow 0 q)) k := by
  obtain ⟨i, hi, hf⟩ := upTo_firstMax (column x q) 32767 (by omega)
  refine ⟨i, ?_, ?_⟩
  · unfold out
    rw [stack_bottom, to_row_bcast, sitofp_apply, best_eq]
    rw [hi]
    have hlt := hf.hi
    show ((((BitVec.ofNat 32 i).toInt : ℤ) : ℝ) : EReal) = _
    rw [show (BitVec.ofNat 32 i).toInt = (i : ℤ) by rw [BitVec.toInt_ofNat']; simp only [Int.bmod]; omega, Int.cast_natCast]
  · unfold out
    rw [stack_top, to_row_bcast, max_eq, foldl_max_eq hf]
    exact hf

end Cert.AllMax.Ref
-- ==== Proof.Equation.lean ====
/-
# Kernel and reference agree

Both results hold, for every column, the largest value of the column and the first row at which it stands.
-/
module

public import proofs.«01_k».proof.Proof.Gather
public import proofs.«01_k».proof.Proof.RefValue
public import proofs.«01_k».proof.Proof.Frames

@[expose] public section

set_option maxRecDepth 16384

noncomputable section

namespace Cert.AllMax

open Idealize.ShloMosaic Idealize.ShloMosaic.TcCoe Idealize.ShloMosaic.ValueIdx Idealize.SL.Sem
open Cert.KernelIdeal Cert.KernelIdeal.Gen

/-- The equation of the two results. -/
theorem result_eq {m : (ℓ : Loc nD τ sig) → Buf (Elt Ideal) ℓ} (ρ : Dev nD → PrngReg) {X : (⟨2, ![32768, 1024]⟩ : Shape).Idx → EReal}
    (hX : Split m X) : (result m ρ : S2x1024.Idx → EReal) = Ref.out (F := Ideal) X := by
  funext y
  obtain ⟨r, q, rfl⟩ : ∃ (r : Fin 2) (q : Fin 1024), y = pairRow r q := ⟨y 0, y 1, eq_pairRow y⟩
  obtain ⟨k, hk, hf⟩ := result_firstMax ρ hX q
  obtain ⟨k', hk', hf'⟩ := Ref.out_firstMax X q
  match r with
  | 0 => exact hf.unique_val hf'
  | 1 => exact hk.trans (((congrArg (fun n : ℕ => ((n : ℝ) : EReal)) (hf.unique_place hf'))).trans hk'.symm)

/-- The kernel's result array holds the kernel's result. -/
theorem finalA_y {F : FTy → Type} [FloatOps F] (m : (ℓ : Loc nD τ sig) → Buf (Elt F) ℓ) (ρ : Dev nD → PrngReg) (c : Dev nD) :
    finalA m ρ c (1 : Fin 2) = result m ρ := by
  unfold finalA
  refine (dats m ρ 0 c).arrAt_eq_of_after_last 1 t0_1 (by decide +kernel) _ fun j => ?_
  rw [cast_eq]
  exact congrArg (result m ρ) (funext fun a => Fin.ext rfl)

theorem value : Cert.algebraic_KernelIdeal_ReferenceIdeal (hKernelIdeal := Cert.KernelIdeal.Gen.facts) (hReferenceIdeal := Cert.ReferenceIdeal.Gen.facts) := by
  intro m g m' g' _ hX
  refine ⟨Ref.out (F := Ideal) (m' (((0 : Dev ReferenceIdeal.nD).tc : Thread ReferenceIdeal.nD ReferenceIdeal.τ).loc ReferenceIdeal.main_arg0)), ?_, ?_⟩
  · refine (θ_run KernelIdeal.defs _ _).mono (fun r h c => ⟨?_, (h.1 c (0 : Fin 2)).trans (finalA_x m g c)⟩) (run_main m g)
    exact ((h.1 c (1 : Fin 2)).trans (finalA_y m g c)).trans (result_eq g hX)
  · exact θ_run_mono (Ref.run_main m' g') fun r h => h 0

end Cert.AllMax
-- ==== Proof.lean ====
/-
# The certificate

The witnesses of what the three programs state about their shapes, and then the claims in the order in which
`Cert.Claim` lists them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.AllMax.frame_kernel, Cert.AllMax.frame_kernel_ideal, Cert.AllMax.frame_reference, trivial,
  Cert.AllMax.value⟩

end Cert.Proof

end
